-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S50x4096 : Shape := ⟨2, ![50, 4096]⟩
abbrev S3200x64 : Shape := ⟨2, ![3200, 64]⟩
abbrev S204800x128 : Shape := ⟨2, ![204800, 128]⟩
abbrev S4 : Shape := ⟨1, ![4]⟩
abbrev S2x4x64 : Shape := ⟨3, ![2, 4, 64]⟩
abbrev S2 : Shape := ⟨1, ![2]⟩
abbrev S2x256x128 : Shape := ⟨3, ![2, 256, 128]⟩
abbrev S1x4x64 : Shape := ⟨3, ![1, 4, 64]⟩
abbrev S4x64 : Shape := ⟨2, ![4, 64]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S64x128 : Shape := ⟨2, ![64, 128]⟩
abbrev S1x64 : Shape := ⟨2, ![1, 64]⟩
abbrev S64 : Shape := ⟨1, ![64]⟩
abbrev S50x4096x128 : Shape := ⟨3, ![50, 4096, 128]⟩
abbrev S4096x50x128 : Shape := ⟨3, ![4096, 50, 128]⟩

abbrev nBuf : Table → Nat
  | .hbm => 7
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S3200x64, .i32⟩
  | .hbm, ⟨4, _⟩ => ⟨S204800x128, .f32⟩
  | .hbm, ⟨5, _⟩ => ⟨S50x4096x128, .f32⟩
  | .hbm, ⟨6, _⟩ => ⟨S4096x50x128, .f32⟩
  | .local .scVector .vmem, ⟨0, _⟩ => ⟨S2x4x64, .i32⟩
  | .local .scVector .vmem, ⟨1, _⟩ => ⟨S2x256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c4_i32_r0 : BitVec 32 := 4#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c4_i32_r0 v7_r0
  let c0_i32_16_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c25_i32_27_r0 : BitVec 32 := 25#32
  let v32_r0 : BitVec 32 := Scalar.addi c0_i32_26_r0 c25_i32_27_r0
  let c1_i32_28_r0 : BitVec 32 := 1#32
  ⟨c0_i32_26_r0, v32_r0, c1_i32_28_r0⟩
def k0_off4 (arg7_r0 : BitVec 32) : Fin 3 → Nat :=
  let c2_i32_181_r0 : BitVec 32 := 2#32
  let v224_r0 : BitVec 32 := Scalar.remui arg7_r0 c2_i32_181_r0
  let c0_i32_183_r0 : BitVec 32 := 0#32
  let c0_i32_184_r0 : BitVec 32 := 0#32
  ![v224_r0.toNat, 0, 0]
def k0_cond1 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_60_r0 : BitVec 1 := 1#1
  let c1_i32_59_r0 : BitVec 32 := 1#32
  let v72_r0 : BitVec 32 := Scalar.addi arg11_r0 c1_i32_59_r0
  let v73_r0 : BitVec 32 := Scalar.select true_60_r0 v72_r0 arg11_r0
  let c25_i32_61_r0 : BitVec 32 := 25#32
  let v74_r0 : BitVec 1 := Scalar.cmpi .eq v73_r0 c25_i32_61_r0
  let c0_i32_62_r0 : BitVec 32 := 0#32
  let v75_r0 : BitVec 32 := Scalar.select v74_r0 c0_i32_62_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg6_r0 : BitVec 32 := Scf.iv c0_i32_26_r0 c1_i32_28_r0 k0_t1
  let c24_i32_67_r0 : BitVec 32 := 24#32
  let v83_r0 : BitVec 1 := Scalar.cmpi .sge arg6_r0 c24_i32_67_r0
  let true_68_r0 : BitVec 1 := 1#1
  let v84_r0 : BitVec 1 := Scalar.xori v83_r0 true_68_r0
  let v85_r0 : BitVec 1 := Scalar.andi v82_r0 v84_r0
  let true_69_r0 : BitVec 1 := 1#1
  let v86_r0 : BitVec 1 := Scalar.andi v85_r0 true_69_r0
  let v87_r0 : BitVec 32 := Scalar.extui v86_r0
  let c0_i32_70_r0 : BitVec 32 := 0#32
  let v88_r0 : BitVec 1 := Scalar.cmpi .ne v87_r0 c0_i32_70_r0
  v88_r0

def k0_off5 (i : grid0.Coords) (arg11_r0 : BitVec 32) : Fin 2 → Nat :=
  let c4_i32_182_r0 : BitVec 32 := 4#32
  let true_60_r0 : BitVec 1 := 1#1
  let c1_i32_59_r0 : BitVec 32 := 1#32
  let v72_r0 : BitVec 32 := Scalar.addi arg11_r0 c1_i32_59_r0
  let v73_r0 : BitVec 32 := Scalar.select true_60_r0 v72_r0 arg11_r0
  let c25_i32_61_r0 : BitVec 32 := 25#32
  let v74_r0 : BitVec 1 := Scalar.cmpi .eq v73_r0 c25_i32_61_r0
  let c0_i32_62_r0 : BitVec 32 := 0#32
  let v75_r0 : BitVec 32 := Scalar.select v74_r0 c0_i32_62_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v225_r0 : BitVec 32 := Scalar.muli c4_i32_182_r0 v76_r0
  let c0_i32_185_r0 : BitVec 32 := 0#32
  ![v225_r0.toNat, 0]
def k0_off6 (arg7_r0 : BitVec 32) : Fin 1 → Nat :=
  let c2_i32_181_r0 : BitVec 32 := 2#32
  let v224_r0 : BitVec 32 := Scalar.remui arg7_r0 c2_i32_181_r0
  ![v224_r0.toNat]
def k0_off7 (arg8_r0 : BitVec 32) : Fin 3 → Nat :=
  let c2_i32_182_r0 : BitVec 32 := 2#32
  let v225_r0 : BitVec 32 := Scalar.remui arg8_r0 c2_i32_182_r0
  let c0_i32_183_r0 : BitVec 32 := 0#32
  let c0_i32_184_r0 : BitVec 32 := 0#32
  ![v225_r0.toNat, 0, 0]
def k0_cond2 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_56_r0 : BitVec 1 := 1#1
  let c1_i32_55_r0 : BitVec 32 := 1#32
  let v67_r0 : BitVec 32 := Scalar.subi arg11_r0 c1_i32_55_r0
  let v68_r0 : BitVec 32 := Scalar.select true_56_r0 v67_r0 arg11_r0
  let c_m1_i32_57_r0 : BitVec 32 := 4294967295#32
  let v69_r0 : BitVec 1 := Scalar.cmpi .eq v68_r0 c_m1_i32_57_r0
  let c24_i32_58_r0 : BitVec 32 := 24#32
  let v70_r0 : BitVec 32 := Scalar.select v69_r0 c24_i32_58_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg6_r0 : BitVec 32 := Scf.iv c0_i32_26_r0 c1_i32_28_r0 k0_t1
  let c0_i32_53_r0 : BitVec 32 := 0#32
  let v64_r0 : BitVec 1 := Scalar.cmpi .eq arg6_r0 c0_i32_53_r0
  let v97_r0 : BitVec 1 := Scalar.ori v96_r0 v64_r0
  let c0_i32_75_r0 : BitVec 32 := 0#32
  let v98_r0 : BitVec 1 := Scalar.cmpi .sge arg6_r0 c0_i32_75_r0
  let v99_r0 : BitVec 1 := Scalar.andi v97_r0 v98_r0
  let v100_r0 : BitVec 32 := Scalar.extui v99_r0
  let c0_i32_76_r0 : BitVec 32 := 0#32
  let v101_r0 : BitVec 1 := Scalar.cmpi .ne v100_r0 c0_i32_76_r0
  v101_r0

def k0_off8 (i : grid0.Coords) (arg11_r0 : BitVec 32) : Fin 2 → Nat :=
  let c4_i32_181_r0 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let v224_r0 : BitVec 32 := Scalar.muli c4_i32_181_r0 v66_r0
  let c0_i32_185_r0 : BitVec 32 := 0#32
  ![v224_r0.toNat, 0]
def k0_off9 (arg8_r0 : BitVec 32) : Fin 1 → Nat :=
  let c2_i32_182_r0 : BitVec 32 := 2#32
  let v225_r0 : BitVec 32 := Scalar.remui arg8_r0 c2_i32_182_r0
  ![v225_r0.toNat]
def k0_off10 (arg9_r0 : BitVec 32) : Fin 3 → Nat :=
  let c2_i32_80_r0 : BitVec 32 := 2#32
  let v109_r0 : BitVec 32 := Scalar.remui arg9_r0 c2_i32_80_r0
  let c0_i32_83_r0 : BitVec 32 := 0#32
  let c0_i32_84_r0 : BitVec 32 := 0#32
  ![v109_r0.toNat, 0, 0]

def k0_chk2 (arg9_r0 : BitVec 32) : Prop :=
  (∀ a, (k0_off10 arg9_r0) a + S1x256x128.size a ≤ S2x256x128.size a)
theorem k0_off10_inb : ∀ (arg9_r0 : BitVec 32) (k0_hw2 : k0_chk2 arg9_r0), ∀ a, (k0_off10 arg9_r0) a + S1x256x128.size a ≤ S2x256x128.size a := fun arg9_r0 k0_hw2 => k0_hw2

def k0_off11 (arg8_r0 : BitVec 32) : Fin 3 → Nat :=
  let c2_i32_79_r0 : BitVec 32 := 2#32
  let v108_r0 : BitVec 32 := Scalar.remui arg8_r0 c2_i32_79_r0
  let c0_i32_87_r0 : BitVec 32 := 0#32
  let c0_i32_88_r0 : BitVec 32 := 0#32
  ![v108_r0.toNat, 0, 0]

def k0_chk3 (arg8_r0 : BitVec 32) : Prop :=
  (∀ a, (k0_off11 arg8_r0) a + S1x4x64.size a ≤ S2x4x64.size a)
theorem k0_off11_inb : ∀ (arg8_r0 : BitVec 32) (k0_hw3 : k0_chk3 arg8_r0), ∀ a, (k0_off11 arg8_r0) a + S1x4x64.size a ≤ S2x4x64.size a := fun arg8_r0 k0_hw3 => k0_hw3

def k0_off12 (arg9_r0 : BitVec 32) : Fin 3 → Nat :=
  let c2_i32_181_r0 : BitVec 32 := 2#32
  let v224_r0 : BitVec 32 := Scalar.remui arg9_r0 c2_i32_181_r0
  let c0_i32_183_r0 : BitVec 32 := 0#32
  let c0_i32_184_r0 : BitVec 32 := 0#32
  ![v224_r0.toNat, 0, 0]
def k0_cond5 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_60_r0 : BitVec 1 := 1#1
  let c1_i32_59_r0 : BitVec 32 := 1#32
  let v72_r0 : BitVec 32 := Scalar.addi arg11_r0 c1_i32_59_r0
  let v73_r0 : BitVec 32 := Scalar.select true_60_r0 v72_r0 arg11_r0
  let c25_i32_61_r0 : BitVec 32 := 25#32
  let v74_r0 : BitVec 1 := Scalar.cmpi .eq v73_r0 c25_i32_61_r0
  let c0_i32_62_r0 : BitVec 32 := 0#32
  let v75_r0 : BitVec 32 := Scalar.select v74_r0 c0_i32_62_r0 v73_r0
  let v76_r0 : BitVec 32 := Scalar.addi v75_r0 v4
  let v195_r0 : BitVec 1 := Scalar.cmpi .ne v66_r0 v76_r0
  let c0_i32_26_r0 : BitVec 32 := 0#32
  let c1_i32_28_r0 : BitVec 32 := 1#32
  let arg6_r0 : BitVec 32 := Scf.iv c0_i32_26_r0 c1_i32_28_r0 k0_t1
  let c24_i32_54_r0 : BitVec 32 := 24#32
  let v65_r0 : BitVec 1 := Scalar.cmpi .eq arg6_r0 c24_i32_54_r0
  let v196_r0 : BitVec 1 := Scalar.ori v195_r0 v65_r0
  let v197_r0 : BitVec 32 := Scalar.extui v196_r0
  let c0_i32_166_r0 : BitVec 32 := 0#32
  let v198_r0 : BitVec 1 := Scalar.cmpi .ne v197_r0 c0_i32_166_r0
  v198_r0

def k0_off13 (i : grid0.Coords) (arg11_r0 : BitVec 32) : Fin 2 → Nat :=
  let c256_i32_182_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let v225_r0 : BitVec 32 := Scalar.muli c256_i32_182_r0 v66_r0
  let c0_i32_185_r0 : BitVec 32 := 0#32
  ![v225_r0.toNat, 0]
def k0_off14 (arg9_r0 : BitVec 32) : Fin 1 → Nat :=
  let c2_i32_181_r0 : BitVec 32 := 2#32
  let v224_r0 : BitVec 32 := Scalar.remui arg9_r0 c2_i32_181_r0
  ![v224_r0.toNat]
def k0_off15 (arg10_r0 : BitVec 32) : Fin 3 → Nat :=
  let c2_i32_181_r0 : BitVec 32 := 2#32
  let v224_r0 : BitVec 32 := Scalar.remui arg10_r0 c2_i32_181_r0
  let c0_i32_183_r0 : BitVec 32 := 0#32
  let c0_i32_184_r0 : BitVec 32 := 0#32
  ![v224_r0.toNat, 0, 0]
def k0_cond7 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg11_r0 v4
  let true_56_r0 : BitVec 1 := 1#1
  let c1_i32_55_r0 : BitVec 32 := 1#32
  let v67_r0 : BitVec 32 := Scalar.subi arg11_r0 c1_i32_55_r0
  let v68_r0 : BitVec 32 := Scalar.select true_56_r0 v67_r0 arg11_r0
  let c_m1_i32_57_r0 : BitVec 32 := 4294967295#32
  let v69_r0 : BitVec 1 := Scalar.cmpi .eq v68_r0 c_m1_i32_57_r0
  let c24_i32_58_r0 : BitVec 32 := 24#32
  let v70_r0 : BitVec 32 := Scalar.select v69_r0 c24_i32_58_r0 v68_r0
  let v71_r0 : BitVec 32 := Scalar.addi v70_r0 v4
  let v208_r0 : BitVec 1 := Scalar.cmpi .ne v66_r0 v71_r0
  let c0_i32_26_r0 : BitVec 32 := 0#32
  let c1_i32_28_r0 : BitVec 32 := 1#32
  let arg6_r0 : BitVec 32 := Scf.iv c0_i32_26_r0 c1_i32_28_r0 k0_t1
  let c0_i32_53_r0 : BitVec 32 := 0#32
  let v64_r0 : BitVec 1 := Scalar.cmpi .eq arg6_r0 c0_i32_53_r0
  let true_172_r0 : BitVec 1 := 1#1
  let v209_r0 : BitVec 1 := Scalar.xori v64_r0 true_172_r0
  let v210_r0 : BitVec 1 := Scalar.andi v208_r0 v209_r0
  let v211_r0 : BitVec 32 := Scalar.extui v210_r0
  let c0_i32_173_r0 : BitVec 32 := 0#32
  let v212_r0 : BitVec 1 := Scalar.cmpi .ne v211_r0 c0_i32_173_r0
  v212_r0

def k0_off16 (i : grid0.Coords) (arg11_r0 : BitVec 32) : Fin 2 → Nat :=
  let c256_i32_182_r0 : BitVec 32 := 256#32
  let true_56_r0 : BitVec 1 := 1#1
  let c1_i32_55_r0 : BitVec 32 := 1#32
  let v67_r0 : BitVec 32 := Scalar.subi arg11_r0 c1_i32_55_r0
  let v68_r0 : BitVec 32 := Scalar.select true_56_r0 v67_r0 arg11_r0
  let c_m1_i32_57_r0 : BitVec 32 := 4294967295#32
  let v69_r0 : BitVec 1 := Scalar.cmpi .eq v68_r0 c_m1_i32_57_r0
  let c24_i32_58_r0 : BitVec 32 := 24#32
  let v70_r0 : BitVec 32 := Scalar.select v69_r0 c24_i32_58_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v225_r0 : BitVec 32 := Scalar.muli c256_i32_182_r0 v71_r0
  let c0_i32_185_r0 : BitVec 32 := 0#32
  ![v225_r0.toNat, 0]
def k0_off17 (arg10_r0 : BitVec 32) : Fin 1 → Nat :=
  let c2_i32_181_r0 : BitVec 32 := 2#32
  let v224_r0 : BitVec 32 := Scalar.remui arg10_r0 c2_i32_181_r0
  ![v224_r0.toNat]

def k0_chk1 (i : grid0.Coords) (k0_t1 : Fin k0_t1_loop.trips) (arg7_r0 : BitVec 32) (arg8_r0 : BitVec 32) (arg9_r0 : BitVec 32) (arg10_r0 : BitVec 32) (arg11_r0 : BitVec 32) : Prop :=
  (∀ (k0_h1 : k0_cond1 i k0_t1 arg11_r0 = 1#1), ∀ a, (k0_off4 arg7_r0) a + S1x4x64.size a ≤ S2x4x64.size a) ∧
  (∀ (k0_h1 : k0_cond1 i k0_t1 arg11_r0 = 1#1), ∀ a, (k0_off5 i arg11_r0) a + S4x64.size a ≤ S3200x64.size a) ∧
  (∀ (k0_h1 : k0_cond1 i k0_t1 arg11_r0 = 1#1), ∀ a, (k0_off6 arg7_r0) a + S1.size a ≤ S2.size a) ∧
  (∀ (k0_h2 : k0_cond2 i k0_t1 arg11_r0 = 1#1), ∀ a, (k0_off7 arg8_r0) a + S1x4x64.size a ≤ S2x4x64.size a) ∧
  (∀ (k0_h2 : k0_cond2 i k0_t1 arg11_r0 = 1#1), ∀ a, (k0_off8 i arg11_r0) a + S4x64.size a ≤ S3200x64.size a) ∧
  (∀ (k0_h2 : k0_cond2 i k0_t1 arg11_r0 = 1#1), ∀ a, (k0_off9 arg8_r0) a + S1.size a ≤ S2.size a) ∧
  (∀ (k0_h5 : k0_cond5 i k0_t1 arg11_r0 = 1#1), ∀ a, (k0_off12 arg9_r0) a + S1x256x128.size a ≤ S2x256x128.size a) ∧
  (∀ (k0_h5 : k0_cond5 i k0_t1 arg11_r0 = 1#1), ∀ a, (k0_off13 i arg11_r0) a + S256x128.size a ≤ S204800x128.size a) ∧
  (∀ (k0_h5 : k0_cond5 i k0_t1 arg11_r0 = 1#1), ∀ a, (k0_off14 arg9_r0) a + S1.size a ≤ S2.size a) ∧
  (∀ (k0_h7 : k0_cond7 i k0_t1 arg11_r0 = 1#1), ∀ a, (k0_off15 arg10_r0) a + S1x256x128.size a ≤ S2x256x128.size a) ∧
  (∀ (k0_h7 : k0_cond7 i k0_t1 arg11_r0 = 1#1), ∀ a, (k0_off16 i arg11_r0) a + S256x128.size a ≤ S204800x128.size a) ∧
  (∀ (k0_h7 : k0_cond7 i k0_t1 arg11_r0 = 1#1), ∀ a, (k0_off17 arg10_r0) a + S1.size a ≤ S2.size a)
theorem k0_off4_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off4 arg7_r0) a + S1x4x64.size a ≤ S2x4x64.size a := fun i k0_t1 arg7_r0 arg8_r0 arg9_r0 arg10_r0 arg11_r0 k0_hw1 k0_h1 => k0_hw1.1 k0_h1
theorem k0_off5_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off5 i arg11_r0) a + S4x64.size a ≤ S3200x64.size a := fun i k0_t1 arg7_r0 arg8_r0 arg9_r0 arg10_r0 arg11_r0 k0_hw1 k0_h1 => k0_hw1.2.1 k0_h1
theorem k0_off6_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i k0_t1 arg11_r0 = 1#1), ∀ a, (k0_off6 arg7_r0) a + S1.size a ≤ S2.size a := fun i k0_t1 arg7_r0 arg8_r0 arg9_r0 arg10_r0 arg11_r0 k0_hw1 k0_h1 => k0_hw1.2.2.1 k0_h1
theorem k0_off7_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off7 arg8_r0) a + S1x4x64.size a ≤ S2x4x64.size a := fun i k0_t1 arg7_r0 arg8_r0 arg9_r0 arg10_r0 arg11_r0 k0_hw1 k0_h2 => k0_hw1.2.2.2.1 k0_h2
theorem k0_off8_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off8 i arg11_r0) a + S4x64.size a ≤ S3200x64.size a := fun i k0_t1 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h2 : k0_cond2 i k0_t1 arg11_r0 = 1#1), ∀ a, (k0_off9 arg8_r0) a + S1.size a ≤ S2.size a := fun i k0_t1 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off12 arg9_r0) a + S1x256x128.size a ≤ S2x256x128.size a := fun i k0_t1 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off13 i arg11_r0) a + S256x128.size a ≤ S204800x128.size a := fun i k0_t1 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h5 : k0_cond5 i k0_t1 arg11_r0 = 1#1), ∀ a, (k0_off14 arg9_r0) a + S1.size a ≤ S2.size a := fun i k0_t1 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off15 arg10_r0) a + S1x256x128.size a ≤ S2x256x128.size a := fun i k0_t1 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off16 i arg11_r0) a + S256x128.size a ≤ S204800x128.size a := fun i k0_t1 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h7 : k0_cond7 i k0_t1 arg11_r0 = 1#1), ∀ a, (k0_off17 arg10_r0) a + S1.size a ≤ S2.size a := fun i k0_t1 arg7_r0 arg8_r0 arg9_r0 arg10_r0 arg11_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_47_r0 : BitVec 32 := 0#32
  let c0_i32_48_r0 : BitVec 32 := 0#32
  ![v54_r0.toNat, 0, 0]

def k0_off19 (i : grid0.Coords) (v33_4_r0 : BitVec 32) : Fin 2 → Nat :=
  let c256_i32_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c24_i32_33_r0 : BitVec 32 := 24#32
  let v37_r0 : BitVec 32 := Scalar.select v36_r0 c24_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c256_i32_r0 v38_r0
  let c0_i32_49_r0 : BitVec 32 := 0#32
  ![v55_r0.toNat, 0]

def k0_chk5 (i : grid0.Coords) (v33_4_r0 : BitVec 32) : Prop :=
  (∀ a, (k0_off19 i v33_4_r0) a + S256x128.size a ≤ S204800x128.size a)
theorem k0_off19_inb : ∀ (i : grid0.Coords) (v33_4_r0 : BitVec 32) (k0_hw5 : k0_chk5 i v33_4_r0), ∀ a, (k0_off19 i v33_4_r0) a + S256x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_51_r0 : BitVec 32 := 0#32
  let c0_i32_52_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  THE KERNEL'S INTEGER WORDS, in closed form. A task sits at a point `i` of the grid: `i 0` the SparseCore, `i 1` the
  vector subcore. It owns 25 consecutive blocks, from block `25 * wid i` on. The pipeline's loop carries five counters;
  at the start of trip `n` they are `st n`. From them the loop computes which of the two slots it uses, which rows of
  the arrays, and which of its steps it takes: each such word is read here as a plain number of the trip and the task.
-/
module

public import proofs.«01_k».proof.Defs
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Idealize.ShloMosaic

/-- A task's number: SparseCore 0's subcores first. -/
abbrev wid (i : grid0.Coords) : ℕ := (i 1).val + 16 * (i 0).val

/-- The `n`-th block of a task. -/
abbrev bno (i : grid0.Coords) (n : ℕ) : ℕ := 25 * wid i + n

/-- The task's first block, as the kernel computes it. -/
abbrev base (i : grid0.Coords) : BitVec 32 :=
  Scalar.muli (Scalar.addi (Scalar.addi 0#32 (Scalar.muli (BitVec.ofNat 32 (i 1).val) 1#32))
    (Scalar.muli (BitVec.ofNat 32 (i 0).val) 16#32)) 25#32

/-- The counters at the start of trip `n`: fetches begun, fetches awaited, write-outs begun, write-outs awaited, and
    the block, which wraps at the end. -/
abbrev a7 (n : ℕ) : BitVec 32 := BitVec.ofNat 32 (min (n + 1) 25)
abbrev a8 (n : ℕ) : BitVec 32 := BitVec.ofNat 32 n
abbrev a9 (n : ℕ) : BitVec 32 := BitVec.ofNat 32 n
abbrev a10 (n : ℕ) : BitVec 32 := BitVec.ofNat 32 (n - 1)
abbrev a11 (n : ℕ) : BitVec 32 := BitVec.ofNat 32 (n % 25)
abbrev st (n : ℕ) : BitVec 32 × BitVec 32 × BitVec 32 × BitVec 32 × BitVec 32 := (a7 n, a8 n, a9 n, a10 n, a11 n)

theorem trips_eq : k0_t1_loop.trips = 25 := by decide +kernel

/-! ## The words of one trip that later parts of the trip read -/

abbrev w6 (t : Fin k0_t1_loop.trips) : BitVec 32 := Scf.iv 0#32 1#32 t
abbrev w64 (t : Fin k0_t1_loop.trips) : BitVec 1 := Scalar.cmpi .eq (w6 t) 0#32
abbrev w65 (t : Fin k0_t1_loop.trips) : BitVec 1 := Scalar.cmpi .eq (w6 t) 24#32
abbrev w66 (i : grid0.Coords) (a : BitVec 32) : BitVec 32 := Scalar.addi a (base i)
abbrev w71 (i : grid0.Coords) (a : BitVec 32) : BitVec 32 :=
  Scalar.addi (Scalar.select (Scalar.cmpi .eq (Scalar.select 1#1 (Scalar.subi a 1#32) a) 4294967295#32) 24#32
    (Scalar.select 1#1 (Scalar.subi a 1#32) a)) (base i)
abbrev w75 (a : BitVec 32) : BitVec 32 :=
  Scalar.select (Scalar.cmpi .eq (Scalar.select 1#1 (Scalar.addi a 1#32) a) 25#32) 0#32 (Scalar.select 1#1 (Scalar.addi a 1#32) a)
abbrev w76 (i : grid0.Coords) (a : BitVec 32) : BitVec 32 := Scalar.addi (w75 a) (base i)
/-- The counter of fetches begun, after the trip. -/
abbrev w91 (i : grid0.Coords) (t : Fin k0_t1_loop.trips) (a b : BitVec 32) : BitVec 32 :=
  Scalar.select (Scalar.andi (Scalar.andi (Scalar.cmpi .ne (w66 i a) (w76 i a)) (Scalar.xori (Scalar.cmpi .sge (w6 t) 24#32) 1#1)) 1#1)
    (Scalar.addi b 1#32) b
abbrev w96 (i : grid0.Coords) (a : BitVec 32) : BitVec 1 := Scalar.cmpi .ne (w66 i a) (w71 i a)
/-- The counter of write-outs begun, after the trip. -/
abbrev w201 (i : grid0.Coords) (t : Fin k0_t1_loop.trips) (a b : BitVec 32) : BitVec 32 :=
  Scalar.select (Scalar.andi (Scalar.ori (Scalar.cmpi .ne (w66 i a) (w76 i a)) (w65 t)) 1#1) (Scalar.addi b 1#32) b
/-- The counter of write-outs awaited, after the trip. -/
abbrev w215 (i : grid0.Coords) (t : Fin k0_t1_loop.trips) (a b : BitVec 32) : BitVec 32 :=
  Scalar.select (Scalar.andi (Scalar.andi (Scalar.cmpi .ne (w66 i a) (w71 i a)) (Scalar.xori (w64 t) 1#1)) 1#1) (Scalar.addi b 1#32) b
abbrev w216 (i : grid0.Coords) (a : BitVec 32) : BitVec 1 := Scalar.cmpi .ne (w66 i a) (w76 i a)
/-- The counter of fetches awaited, after the trip. -/
abbrev w219 (i : grid0.Coords) (t : Fin k0_t1_loop.trips) (a b : BitVec 32) : BitVec 32 :=
  Scalar.select (Scalar.ori (w216 i a) (w65 t)) (Scalar.addi b 1#32) b

/-- One trip takes the counters from `st t` to `st (t + 1)`. -/
theorem next_st : ∀ (i : grid0.Coords) (t : Fin k0_t1_loop.trips),
    (w91 i t (a11 t.val) (a7 t.val), w219 i t (a11 t.val) (a8 t.val), w201 i t (a11 t.val) (a9 t.val),
      w215 i t (a11 t.val) (a10 t.val), w75 (a11 t.val)) = st (t.val + 1) := by decide +kernel

/-! ## Which steps a trip takes -/

/-- The next block's fetch is begun in every trip but the last. -/
theorem cond1_iff : ∀ (i : grid0.Coords) (t : Fin k0_t1_loop.trips), k0_cond1 i t (a11 t.val) = 1#1 ↔ t.val < 24 := by decide +kernel
/-- This block's fetch is awaited in every trip. -/
theorem cond2 : ∀ (i : grid0.Coords) (t : Fin k0_t1_loop.trips), k0_cond2 i t (a11 t.val) = 1#1 := by decide +kernel
/-- This block's write-out is begun in every trip. -/
theorem cond5 : ∀ (i : grid0.Coords) (t : Fin k0_t1_loop.trips), k0_cond5 i t (a11 t.val) = 1#1 := by decide +kernel
/-- The block before's write-out is awaited in every trip but the first. -/
theorem cond7_iff : ∀ (i : grid0.Coords) (t : Fin k0_t1_loop.trips), k0_cond7 i t (a11 t.val) = 1#1 ↔ 0 < t.val := by decide +kernel

/-! ## The checks hold -/

theorem chk1 : ∀ (i : grid0.Coords) (t : Fin k0_t1_loop.trips),
    k0_chk1 i t (a7 t.val) (a8 t.val) (a9 t.val) (a10 t.val) (a11 t.val) := by decide +kernel
theorem chk2 : ∀ t : Fin k0_t1_loop.trips, k0_chk2 (a9 t.val) := by decide +kernel
theorem chk3 : ∀ t : Fin k0_t1_loop.trips, k0_chk3 (a8 t.val) := by decide +kernel
theorem chk4 : k0_chk4 (a10 25) := by decide +kernel
theorem chk5 : ∀ i : grid0.Coords, k0_chk5 i (a11 25) := by decide +kernel

/-! ## The windows' offsets -/

theorem off2_eq : ∀ i : grid0.Coords, k0_off2 i = ![4 * bno i 0, 0] := by decide +kernel
theorem off4_eq : ∀ t : Fin k0_t1_loop.trips, t.val < 24 → k0_off4 (a7 t.val) = ![(t.val + 1) % 2, 0, 0] := by decide +kernel
theorem off5_eq : ∀ (i : grid0.Coords) (t : Fin k0_t1_loop.trips), t.val < 24 → k0_off5 i (a11 t.val) = ![4 * bno i (t.val + 1), 0] := by decide +kernel
theorem off6_eq : ∀ t : Fin k0_t1_loop.trips, t.val < 24 → k0_off6 (a7 t.val) = ![(t.val + 1) % 2] := by decide +kernel
theorem off7_eq : ∀ t : Fin k0_t1_loop.trips, k0_off7 (a8 t.val) = ![t.val % 2, 0, 0] := by decide +kernel
theorem off9_eq : ∀ t : Fin k0_t1_loop.trips, k0_off9 (a8 t.val) = ![t.val % 2] := by decide +kernel
theorem off10_eq : ∀ t : Fin k0_t1_loop.trips, k0_off10 (a9 t.val) = ![t.val % 2, 0, 0] := by decide +kernel
theorem off11_eq : ∀ t : Fin k0_t1_loop.trips, k0_off11 (a8 t.val) = ![t.val % 2, 0, 0] := by decide +kernel
theorem off12_eq : ∀ t : Fin k0_t1_loop.trips, k0_off12 (a9 t.val) = ![t.val % 2, 0, 0] := by decide +kernel
theorem off13_eq : ∀ (i : grid0.Coords) (t : Fin k0_t1_loop.trips), k0_off13 i (a11 t.val) = ![256 * bno i t.val, 0] := by decide +kernel
theorem off14_eq : ∀ t : Fin k0_t1_loop.trips, k0_off14 (a9 t.val) = ![t.val % 2] := by decide +kernel
theorem off17_eq : ∀ t : Fin k0_t1_loop.trips, 0 < t.val → k0_off17 (a10 t.val) = ![(t.val - 1) % 2] := by decide +kernel
theorem off20_eq : k0_off20 (a10 25) = ![0] := by decide +kernel

end Cert.Proof.Lookup

end
-- ==== Proof.Windows.lean ====
/-
  THE WINDOWS of the kernel's buffers and what the copies leave in them. Block `B` of the index array is its rows
  `4B … 4B+3`, block `B` of the output its rows `256B … 256B+255`; each scratch has two slots; a gather fills one quarter
  of a row slot, 64 rows, by one row of an index slot, 64 words. Every window is named by the set of its elements, said
  by coordinates, and every content by a function of the index array `I` and the table `T` alone: so what a copy writes
  is that function on its window, whatever was there before.
-/
module

public import proofs.«01_k».proof.Proof.Words
public import Idealize.ShloMosaic.Lib.SparseCore.Stream
public import Idealize.ShloMosaic.Lib.ValueLayout

@[expose] public section

noncomputable section

namespace Cert.Proof.Lookup

open Cert.KernelIdeal Cert.KernelIdeal.Gen
open Idealize.ShloMosaic Idealize.ShloMosaic.ValueIdx

variable {F : FTy → Type}

/-! ## The buffers as a vector subcore names them -/

local notation "tV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S3200x64 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scoped0 : Memref Cert.KernelIdeal.sig Kind.scVector Space.vmem Cert.KernelIdeal.S2x4x64 EltTy.i32)
local notation "rV" => (Memref.whole Cert.KernelIdeal.cc0_scoped2 : Memref Cert.KernelIdeal.sig Kind.scVector Space.vmem Cert.KernelIdeal.S2x256x128 EltTy.f32)

/-! ## The windows' elements -/

/-- The elements of block `B` of the index array. -/
def iBlk (B : ℕ) : Finset S3200x64.Idx := Finset.univ.filter fun x => (x 0).val / 4 = B
/-- The elements of block `B` of the output. -/
def oBlk (B : ℕ) : Finset S204800x128.Idx := Finset.univ.filter fun x => (x 0).val / 256 = B
/-- The elements of slot `p` of the index scratch. -/
def sSlot (p : ℕ) : Finset S2x4x64.Idx := Finset.univ.filter fun x => (x 0).val = p
/-- The elements of row `k` of that slot. -/
def sRow (p k : ℕ) : Finset S2x4x64.Idx := Finset.univ.filter fun x => (x 0).val = p ∧ (x 1).val = k
/-- The elements of slot `p` of the row scratch. -/
def rSlot (p : ℕ) : Finset S2x256x128.Idx := Finset.univ.filter fun x => (x 0).val = p
/-- The elements of quarter `k` of that slot. -/
def rQtr (p k : ℕ) : Finset S2x256x128.Idx := Finset.univ.filter fun x => (x 0).val = p ∧ (x 1).val / 64 = k

/-! ## The views the kernel takes, at any offset -/

abbrev iBlkV (off : Fin 2 → ℕ) (h : ∀ a, off a + S4x64.size a ≤ S3200x64.size a) : Memref sig .scVector .hbm S4x64 .i32 :=
  (iV).slice (Rect.unit (s := S3200x64) off S4x64.size h) (fun _ => rfl)
abbrev oBlkV (off : Fin 2 → ℕ) (h : ∀ a, off a + S256x128.size a ≤ S204800x128.size a) : Memref sig .scVector .hbm S256x128 .f32 :=
  (oV).slice (Rect.unit (s := S204800x128) off S256x128.size h) (fun _ => rfl)
abbrev sSlotV (off : Fin 3 → ℕ) (h : ∀ a, off a + S1x4x64.size a ≤ S2x4x64.size a) : Memref sig .scVector .vmem S4x64 .i32 :=
  ((sV).slice (Rect.unit (s := S2x4x64) off S1x4x64.size h) (fun _ => rfl)).squeeze S4x64 squeezes_S1x4x64_S4x64
abbrev sRowV (off : Fin 3 → ℕ) (h : ∀ a, off a + S1x4x64.size a ≤ S2x4x64.size a) (off' : Fin 2 → ℕ)
    (h' : ∀ a, off' a + S1x64.size a ≤ S4x64.size a) : Memref sig .scVector .vmem S64 .i32 :=
  ((sSlotV off h).slice (Rect.unit (s := S4x64) off' S1x64.size h') (fun _ => rfl)).squeeze S64 squeezes_S1x64_S64
abbrev rSlotV (off : Fin 3 → ℕ) (h : ∀ a, off a + S1x256x128.size a ≤ S2x256x128.size a) : Memref sig .scVector .vmem S256x128 .f32 :=
  ((rV).slice (Rect.unit (s := S2x256x128) off S1x256x128.size h) (fun _ => rfl)).squeeze S256x128 squeezes_S1x256x128_S256x128
abbrev rQtrV (off : Fin 3 → ℕ) (h : ∀ a, off a + S1x256x128.size a ≤ S2x256x128.size a) (off' : Fin 2 → ℕ)
    (h' : ∀ a, off' a + S64x128.size a ≤ S256x128.size a) : Memref sig .scVector .vmem S64x128 .f32 :=
  (rSlotV off h).slice (Rect.unit (s := S256x128) off' S64x128.size h') (fun _ => rfl)
/-- The table, as a gather takes it. -/
abbrev tabV : Memref sig .scVector .hbm S100000x128 .f32 :=
  (tV).slice (Rect.unit (s := S100000x128) ![0, 0] S100000x128.size inb_S100000x128_S100000x128_0_0) (fun _ => rfl)

/-! ## Where each view's elements sit -/

theorem emb_iBlkV {off} {h} {B : ℕ} (e : off = ![4 * B, 0]) (x : S4x64.Idx) (b : Fin 2) :
    ((iBlkV off h).view.emb x b).val = ![4 * B + (x 0).val, (x 1).val] b := by
  subst e
  match b with
  | 0 => show 4 * B + 1 * (x 0).val = _; simp
  | 1 => show 0 + 1 * (x 1).val = _; simp

theorem emb_oBlkV {off} {h} {B : ℕ} (e : off = ![256 * B, 0]) (x : S256x128.Idx) (b : Fin 2) :
    ((oBlkV off h).view.emb x b).val = ![256 * B + (x 0).val, (x 1).val] b := by
  subst e
  match b with
  | 0 => show 256 * B + 1 * (x 0).val = _; simp
  | 1 => show 0 + 1 * (x 1).val = _; simp

theorem emb_tabV (x : S100000x128.Idx) : (tabV).view.emb x = x := by
  funext b
  match b with
  | 0 => exact Fin.ext (by show 0 + 1 * (x 0).val = _; simp)
  | 1 => exact Fin.ext (by show 0 + 1 * (x 1).val = _; simp)

theorem emb_sSlotV {off} {h} {p : ℕ} (e : off = ![p, 0, 0]) (x : S4x64.Idx) (b : Fin 3) :
    ((sSlotV off h).view.emb x b).val = ![p, (x 0).val, (x 1).val] b := by
  subst e
  obtain ⟨x0, x1, rfl⟩ : ∃ a b, x = ix2 a b := ⟨x 0, x 1, eq_ix2 x⟩
  have hx := reshapeEquiv_ix2_1ab squeezes_S1x4x64_S4x64.numel_eq x0 x1
  show (((Rect.unit (s := S2x4x64) ![p, 0, 0] S1x4x64.size h).emb (Shape.reshapeEquiv squeezes_S1x4x64_S4x64.numel_eq (ix2 x0 x1))) b).val = _
  rw [hx]
  match b with
  | 0 => show p + 1 * 0 = _; simp
  | 1 => show 0 + 1 * x0.val = _; simp
  | 2 => show 0 + 1 * x1.val = _; simp

theorem emb_rSlotV {off} {h} {p : ℕ} (e : off = ![p, 0, 0]) (x : S256x128.Idx) (b : Fin 3) :
    ((rSlotV off h).view.emb x b).val = ![p, (x 0).val, (x 1).val] b := by
  subst e
  obtain ⟨x0, x1, rfl⟩ : ∃ a b, x = ix2 a b := ⟨x 0, x 1, eq_ix2 x⟩
  have hx := reshapeEquiv_ix2_1ab squeezes_S1x256x128_S256x128.numel_eq x0 x1
  show (((Rect.unit (s := S2x256x128) ![p, 0, 0] S1x256x128.size h).emb (Shape.reshapeEquiv squeezes_S1x256x128_S256x128.numel_eq (ix2 x0 x1))) b).val = _
  rw [hx]
  match b with
  | 0 => show p + 1 * 0 = _; simp
  | 1 => show 0 + 1 * x0.val = _; simp
  | 2 => show 0 + 1 * x1.val = _; simp

theorem emb_rQtrV {off} {h} {off'} {h'} {p k : ℕ} (e : off = ![p, 0, 0]) (e' : off' = ![64 * k, 0]) (x : S64x128.Idx) (b : Fin 3) :
    ((rQtrV off h off' h').view.emb x b).val = ![p, 64 * k + (x 0).val, (x 1).val] b := by
  subst e'
  show ((rSlotV off h).view.emb ((Rect.unit (s := S256x128) ![64 * k, 0] S64x128.size h').emb x) b).val = _
  rw [emb_rSlotV e]
  match b with
  | 0 => rfl
  | 1 => show 64 * k + 1 * (x 0).val = _; simp
  | 2 => show 0 + 1 * (x 1).val = _; simp

theorem emb_sRowV {off} {h} {off'} {h'} {p k : ℕ} (e : off = ![p, 0, 0]) (e' : off' = ![k, 0]) (x : S64.Idx) (b : Fin 3) :
    ((sRowV off h off' h').view.emb x b).val = ![p, k, (x 0).val] b := by
  subst e'
  have hx := Shape.reshapeEquiv_cons_one squeezes_S1x64_S64.numel_eq x
  show ((sSlotV off h).view.emb ((Rect.unit (s := S4x64) ![k, 0] S1x64.size h').emb (Shape.reshapeEquiv squeezes_S1x64_S64.numel_eq x)) b).val = _
  rw [emb_sSlotV e, hx]
  match b with
  | 0 => rfl
  | 1 => show k + 1 * 0 = _; simp
  | 2 => show 0 + 1 * (x 0).val = _; simp

/-! ## The views' element sets are the windows -/

theorem set_iBlkV {off} {h} {B : ℕ} (e : off = ![4 * B, 0]) : (iBlkV off h).view.set = iBlk B := by
  ext x
  simp only [View.set, Finset.mem_map, Finset.mem_univ, true_and, iBlk, Finset.mem_filter]
  constructor
  · rintro ⟨y, rfl⟩
    have := emb_iBlkV (h := h) e y 0; have := idx2_lt0 y; simp at *; omega
  · intro hx
    have h1 : (x 1).val < 64 := idx2_lt1 x
    refine ⟨ix2 ⟨(x 0).val % 4, by omega⟩ ⟨(x 1).val, h1⟩, funext fun b => Fin.ext ?_⟩
    rw [emb_iBlkV e]
    match b with
    | 0 => show 4 * B + (x 0).val % 4 = _; omega
    | 1 => rfl

theorem set_oBlkV {off} {h} {B : ℕ} (e : off = ![256 * B, 0]) : (oBlkV off h).view.set = oBlk B := by
  ext x
  simp only [View.set, Finset.mem_map, Finset.mem_univ, true_and, oBlk, Finset.mem_filter]
  constructor
  · rintro ⟨y, rfl⟩
    have := emb_oBlkV (h := h) e y 0; have := idx2_lt0 y; simp at *; omega
  · intro hx
    have h1 : (x 1).val < 128 := idx2_lt1 x
    refine ⟨ix2 ⟨(x 0).val % 256, by omega⟩ ⟨(x 1).val, h1⟩, funext fun b => Fin.ext ?_⟩
    rw [emb_oBlkV e]
    match b with
    | 0 => show 256 * B + (x 0).val % 256 = _; omega
    | 1 => rfl

theorem set_tabV : (tabV).view.set = Finset.univ := by
  ext x
  simp only [View.set, Finset.mem_map, Finset.mem_univ, true_and, iff_true]
  exact ⟨x, emb_tabV x⟩

theorem set_sSlotV {off} {h} {p : ℕ} (e : off = ![p, 0, 0]) : (sSlotV off h).view.set = sSlot p := by
  ext x
  simp only [View.set, Finset.mem_map, Finset.mem_univ, true_and, sSlot, Finset.mem_filter]
  constructor
  · rintro ⟨y, rfl⟩
    exact emb_sSlotV (h := h) e y 0
  · intro hx
    refine ⟨ix2 (x 1) (x 2), funext fun b => Fin.ext ?_⟩
    rw [emb_sSlotV e]
    match b with
    | 0 => exact hx.symm
    | 1 => rfl
    | 2 => rfl

theorem set_rSlotV {off} {h} {p : ℕ} (e : off = ![p, 0, 0]) : (rSlotV off h).view.set = rSlot p := by
  ext x
  simp only [View.set, Finset.mem_map, Finset.mem_univ, true_and, rSlot, Finset.mem_filter]
  constructor
  · rintro ⟨y, rfl⟩
    exact emb_rSlotV (h := h) e y 0
  · intro hx
    refine ⟨ix2 (x 1) (x 2), funext fun b => Fin.ext ?_⟩
    rw [emb_rSlotV e]
    match b with
    | 0 => exact hx.symm
    | 1 => rfl
    | 2 => rfl

theorem set_rQtrV {off} {h} {off'} {h'} {p k : ℕ} (e : off = ![p, 0, 0]) (e' : off' = ![64 * k, 0]) :
    (rQtrV off h off' h').view.set = rQtr p k := by
  ext x
  simp only [View.set, Finset.mem_map, Finset.mem_univ, true_and, rQtr, Finset.mem_filter]
  constructor
  · rintro ⟨y, rfl⟩
    have h0 := emb_rQtrV (h := h) (h' := h') e e' y 0
    have h1 := emb_rQtrV (h := h) (h' := h') e e' y 1
    have := idx2_lt0 y
    exact ⟨h0, by rw [h1]; show (64 * k + (y 0).val) / 64 = k; omega⟩
  · rintro ⟨hx, hk⟩
    refine ⟨ix2 ⟨(x 1).val % 64, by omega⟩ (x 2), funext fun b => Fin.ext ?_⟩
    rw [emb_rQtrV e e']
    match b with
    | 0 => exact hx.symm
    | 1 => show 64 * k + (x 1).val % 64 = _; omega
    | 2 => rfl

theorem set_sRowV {off} {h} {off'} {h'} {p k : ℕ} (e : off = ![p, 0, 0]) (e' : off' = ![k, 0]) :
    (sRowV off h off' h').view.set = sRow p k := by
  ext x
  simp only [View.set, Finset.mem_map, Finset.mem_univ, true_and, sRow, Finset.mem_filter]
  constructor
  · rintro ⟨y, rfl⟩
    exact ⟨emb_sRowV (h := h) (h' := h') e e' y 0, emb_sRowV (h := h) (h' := h') e e' y 1⟩
  · rintro ⟨hx, hk⟩
    refine ⟨ix1 (x 2), funext fun b => Fin.ext ?_⟩
    rw [emb_sRowV e e']
    match b with
    | 0 => exact hx.symm
    | 1 => exact hk.symm
    | 2 => rfl

/-! ## The contents -/

/-- The gathered rows: row `r` of the output is the row of the table that word `r` of the index array names, the
    array read in row-major order. -/
def outC (I : S3200x64.Idx → BitVec 32) (T : S100000x128.Idx → F .f32) : S204800x128.Idx → F .f32 := fun x =>
  T (ix2 ⟨(I (ix2 ⟨(x 0).val / 64 % 3200, Nat.mod_lt _ (by decide)⟩ ⟨(x 0).val % 64, Nat.mod_lt _ (by decide)⟩)).toNat % 100000,
    Nat.mod_lt _ (by decide)⟩ (x 1))
/-- An index slot holding block `B` of the index array (both slots' elements: a slot is a window of this). -/
def idxC (I : S3200x64.Idx → BitVec 32) (B : ℕ) : S2x4x64.Idx → BitVec 32 := fun x =>
  I (ix2 ⟨(4 * B + (x 1).val) % 3200, Nat.mod_lt _ (by decide)⟩ (x 2))
/-- A row slot holding block `B` of the gathered rows. -/
def rowC (I : S3200x64.Idx → BitVec 32) (T : S100000x128.Idx → F .f32) (B : ℕ) : S2x256x128.Idx → F .f32 := fun x =>
  outC I T (ix2 ⟨(256 * B + (x 1).val) % 204800, Nat.mod_lt _ (by decide)⟩ (x 2))

variable (I : S3200x64.Idx → BitVec 32) (T : S100000x128.Idx → F .f32)

/-- The fetch of block `B` leaves the slot holding block `B`. -/
theorem fetch_eq {off off'} {h h'} {p B : ℕ} (hB : B < 800) (e : off = ![p, 0, 0]) (e' : off' = ![4 * B, 0]) (f : S2x4x64.Idx → BitVec 32) :
    ∀ x ∈ sSlot p, (sSlotV off h).view.write (Elt F) f ((iBlkV off' h').view.read (Elt F) I) Finset.univ x = idxC I B x := by
  intro x hx
  rw [← set_sSlotV (h := h) e] at hx
  obtain ⟨y, -, rfl⟩ := Finset.mem_map.mp hx
  refine (View.write_emb_of_mem _ _ (Finset.mem_univ y)).trans ?_
  refine congrArg I (funext fun b => Fin.ext ?_)
  have := idx2_lt0 y
  rw [emb_iBlkV e']
  match b with
  | 0 =>
    show 4 * B + (y 0).val = (4 * B + ((sSlotV off h).view.emb y 1).val) % 3200
    rw [emb_sSlotV e]; show _ = (4 * B + (y 0).val) % 3200; omega
  | 1 => exact (emb_sSlotV (h := h) e y 2).symm

/-- A list of an index slot holding block `B` is that block's row `k`. -/
theorem list_eq {off off'} {h h'} {p k B : ℕ} (e : off = ![p, 0, 0]) (e' : off' = ![k, 0]) (x : S64.Idx) :
    (sRowV off h off' h').view.read (Elt F) (idxC I B) x = I (ix2 ⟨(4 * B + k) % 3200, Nat.mod_lt _ (by decide)⟩ (x 0)) := by
  refine congrArg I (funext fun b => Fin.ext ?_)
  match b with
  | 0 =>
    show (4 * B + ((sRowV off h off' h').view.emb x 1).val) % 3200 = (4 * B + k) % 3200
    rw [emb_sRowV e e']; rfl
  | 1 => exact emb_sRowV (h := h) (h' := h') e e' x 2

/-- Gather `k` out of a slot holding block `B` leaves quarter `k` of the row slot holding block `B`. -/
theorem gather_eq {off off' off₁ off₁'} {h h' h₁ h₁'} {p p' k B : ℕ} (hB : B < 800) (hk : k < 4) (hI : ∀ j, (I j).toNat < 100000)
    (e : off = ![p, 0, 0]) (e' : off' = ![64 * k, 0]) (e₁ : off₁ = ![p', 0, 0]) (e₁' : off₁' = ![k, 0]) (f : S2x256x128.Idx → F .f32)
    (hn : S64.numel = S64x128.size gathers_S100000x128_S64x128.axis')
    (hin : ∀ x, ((sRowV off₁ h₁ off₁' h₁').view.read (Elt F) (idxC I B) x).toNat < S100000x128.size gathers_S100000x128_S64x128.axis) :
    ∀ x ∈ rQtr p k, (rQtrV off h off' h').view.write (Elt F) f
        (SparseCore.gatherPayload gathers_S100000x128_S64x128 ((tabV).view.read (Elt F) T)
          (SparseCore.rows ((sRowV off₁ h₁ off₁' h₁').view.read (Elt F) (idxC I B)) hn hin)) Finset.univ x
      = rowC I T B x := by
  intro x hx
  rw [← set_rQtrV (h := h) (h' := h') e e'] at hx
  obtain ⟨y, -, rfl⟩ := Finset.mem_map.mp hx
  refine (View.write_emb_of_mem _ _ (Finset.mem_univ y)).trans ?_
  have hy := idx2_lt0 y
  have hT : ∀ z, (tabV).view.read (Elt F) T z = T z := fun z => congrArg T (emb_tabV z)
  show (tabV).view.read (Elt F) T (gathers_S100000x128_S64x128.idx _ y) = _
  rw [hT]
  refine congrArg T (funext fun b => Fin.ext ?_)
  match b with
  | 0 =>
    let z : S64.Idx := ix1 (⟨(y 0).val, hy⟩ : Fin 64)
    have hr : S64.rowMajor.symm ((y 0).cast hn.symm) = z :=
      (Equiv.symm_apply_eq _).mpr (Fin.ext (Shape.rowMajor_val_one z).symm)
    have h0 := Shape.Gathers.idx_axis gathers_S100000x128_S64x128
      (SparseCore.rows ((sRowV off₁ h₁ off₁' h₁').view.read (Elt F) (idxC I B)) hn hin) y
    refine (congrArg Fin.val h0).trans ?_
    show ((sRowV off₁ h₁ off₁' h₁').view.read (Elt F) (idxC I B) ((Shape.rowMajor S64).symm ((y 0).cast hn.symm))).toNat = _
    refine (congrArg (fun w => ((sRowV off₁ h₁ off₁' h₁').view.read (Elt F) (idxC I B) w).toNat) hr).trans ?_
    refine (congrArg BitVec.toNat (list_eq (F := F) I e₁ e₁' z)).trans ?_
    show _ = (I _).toNat % 100000
    rw [Nat.mod_eq_of_lt (hI _)]
    refine congrArg (fun z => (I z).toNat) (funext fun b => Fin.ext ?_)
    have h1 : ((rQtrV off h off' h').view.emb y 1).val = 64 * k + (y 0).val := emb_rQtrV e e' y 1
    match b with
    | 0 =>
      show (4 * B + k) % 3200 = (256 * B + ((rQtrV off h off' h').view.emb y 1).val) % 204800 / 64 % 3200
      rw [h1]; omega
    | 1 =>
      show (y 0).val = (256 * B + ((rQtrV off h off' h').view.emb y 1).val) % 204800 % 64
      rw [h1]; omega
  | 1 =>
    refine (Shape.Gathers.idx_of_ne gathers_S100000x128_S64x128 _ y 1 (by decide)).trans ?_
    exact (emb_rQtrV (h := h) (h' := h') e e' y 2).symm

/-- The write-out of a row slot holding block `B` leaves block `B` of the output at the gathered rows. -/
theorem flush_eq {off off'} {h h'} {p B : ℕ} (hB : B < 800) (e : off = ![p, 0, 0]) (e' : off' = ![256 * B, 0]) (f : S204800x128.Idx → F .f32) :
    ∀ x ∈ oBlk B, (oBlkV off' h').view.write (Elt F) f ((rSlotV off h).view.read (Elt F) (rowC I T B)) Finset.univ x = outC I T x := by
  intro x hx
  rw [← set_oBlkV (h := h') e'] at hx
  obtain ⟨y, -, rfl⟩ := Finset.mem_map.mp hx
  refine (View.write_emb_of_mem _ _ (Finset.mem_univ y)).trans ?_
  show outC I T _ = _
  have := idx2_lt0 y
  refine congrArg (outC I T) (funext fun b => Fin.ext ?_)
  rw [emb_oBlkV e']
  match b with
  | 0 =>
    show (256 * B + ((rSlotV off h).view.emb y 1).val) % 204800 = 256 * B + (y 0).val
    rw [emb_rSlotV e]; show (256 * B + (y 0).val) % 204800 = _; omega
  | 1 => exact emb_rSlotV (h := h) e y 2

end Cert.Proof.Lookup

end
-- ==== Proof.Steps.lean ====
/-
  THE KERNEL'S STEPS, one rule per kind of step: a fetch of a block of the index array into an index slot, a gather of 64
  table rows into a quarter of a row slot, a write-out of a row slot to a block of the output, and a wait. Each takes the
  windows it reads and writes and hands back the copy in flight, which will deliver those windows at the contents the
  copy leaves (`fetch_eq`, `gather_eq`, `flush_eq`); a wait turns a copy in flight into what it delivers. The offsets are
  variables with an equation, so that a rule applies at the offset the kernel computed.
-/
module

public import proofs.«01_k».proof.Defs
public import proofs.«01_k».proof.Proof.Windows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Where a task's windows are -/

variable (d : Dev nD) (L : grid0.Coords)

abbrev cV (L : grid0.Coords) : Fin τ.nSC := (L 0).castLE hcore0
abbrev jV (L : grid0.Coords) : Fin τ.nSub := (L 1).castLE hsub0
/-- The thread of the task at `L`. -/
abbrev thr : Thread nD τ := V d (cV L) (jV L)

abbrev xLoc : Loc nD τ sig := (SparseCore.T d).loc main_arg0
abbrev tLoc : Loc nD τ sig := (SparseCore.T d).loc main_arg1
abbrev wLoc : Loc nD τ sig := (SparseCore.T d).loc main_v0
abbrev iLoc : Loc nD τ sig := (SparseCore.T d).loc main_v1
abbrev oLoc : Loc nD τ sig := (SparseCore.T d).loc main_v2
abbrev yLoc : Loc nD τ sig := (SparseCore.T d).loc main_v3
abbrev zLoc : Loc nD τ sig := (SparseCore.T d).loc main_v4
abbrev sLoc : Loc nD τ sig := (thr d L).loc cc0_scoped0
abbrev rLoc : Loc nD τ sig := (thr d L).loc cc0_scoped2

/-- The semaphore of index slot `p`, of row slot `p`, of gather `k`. -/
def inS (p : Fin 2) : DmaSem sig := cc0_scoped1.ix fun | 0 => p
def outS (p : Fin 2) : DmaSem sig := cc0_scoped3.ix fun | 0 => p
def gS (k : Fin 4) : DmaSem sig := cc0_scratch0.ix fun | 0 => k

theorem sem_in {off : Fin 1 → ℕ} {h : ∀ a, off a + S1.size a ≤ S2.size a} {p : Fin 2} (e : off = ![p.val]) :
    ((cc0_scoped1.slice (Rect.unit (s := S2) off S1.size h)).squeeze S_ squeezes_S1_S_).sem = inS p := by
  subst e
  have h0 : ∀ j : S1.Idx, ((Rect.unit (s := S2) ![p.val] S1.size h).emb j 0).val = p.val := fun j => by
    have hj : (j 0).val < 1 := (j 0).isLt
    show p.val + 1 * (j 0).val = p.val
    omega
  refine congrArg cc0_scoped1.ix (funext fun a => Fin.ext ?_)
  match a with | 0 => exact h0 _
theorem sem_out {off : Fin 1 → ℕ} {h : ∀ a, off a + S1.size a ≤ S2.size a} {p : Fin 2} (e : off = ![p.val]) :
    ((cc0_scoped3.slice (Rect.unit (s := S2) off S1.size h)).squeeze S_ squeezes_S1_S_).sem = outS p := by
  subst e
  have h0 : ∀ j : S1.Idx, ((Rect.unit (s := S2) ![p.val] S1.size h).emb j 0).val = p.val := fun j => by
    have hj : (j 0).val < 1 := (j 0).isLt
    show p.val + 1 * (j 0).val = p.val
    omega
  refine congrArg cc0_scoped3.ix (funext fun a => Fin.ext ?_)
  match a with | 0 => exact h0 _
theorem sem_g {off : Fin 1 → ℕ} {h : ∀ a, off a + S1.size a ≤ S4.size a} {k : Fin 4} (e : off = ![k.val]) :
    ((cc0_scratch0.slice (Rect.unit (s := S4) off S1.size h)).squeeze S_ squeezes_S1_S_).sem = gS k := by
  subst e
  have h0 : ∀ j : S1.Idx, ((Rect.unit (s := S4) ![k.val] S1.size h).emb j 0).val = k.val := fun j => by
    have hj : (j 0).val < 1 := (j 0).isLt
    show k.val + 1 * (j 0).val = k.val
    omega
  refine congrArg cc0_scratch0.ix (funext fun a => Fin.ext ?_)
  match a with | 0 => exact h0 _

/-! ## Copies in flight -/

/-- What one fetch, one gather, one write-out credits its semaphore. -/
abbrev NIn : ℕ := (sSlotV ![0, 0, 0] (by decide)).view.dmaCredit
abbrev NG : ℕ := (rQtrV ![0, 0, 0] (by decide) ![0, 0] (by decide)).view.dmaCredit
abbrev NOut : ℕ := (oBlkV ![0, 0] (by decide)).view.dmaCredit

variable (I : S3200x64.Idx → BitVec 32) (T : S100000x128.Idx → F .f32) (q : PosShare TreeShare)

/-- The fetch of block `B` into index slot `p`, in flight. -/
def FetchFl (p : Fin 2) (B : ℕ) : sProp 𝕄 :=
  Transfers.Flight countersEmb (thr d L) (.dma (inS p)) (default : HIx 1) NIn
    iprop((iLoc d ↦[iBlk B]{fullShare} I) ∗ (sLoc d L ↦[sSlot p]{fullShare} idxC I B))
/-- The write-out of row slot `p` to block `B`, in flight. -/
def FlushFl (p : Fin 2) (B : ℕ) : sProp 𝕄 :=
  Transfers.Flight countersEmb (thr d L) (.dma (outS p)) (default : HIx 1) NOut
    iprop((oLoc d ↦[oBlk B]{fullShare} outC I T) ∗ (rLoc d L ↦[rSlot p]{fullShare} rowC I T B))
/-- Gather `k` out of index slot `p` into row slot `p`, in flight. -/
def GatherFl (p : Fin 2) (k : Fin 4) (B : ℕ) : sProp 𝕄 :=
  Transfers.Flight countersEmb (thr d L) (.dma (gS k)) (default : HIx 1) NG
    iprop((rLoc d L ↦[rQtr p k]{fullShare} rowC I T B) ∗ (tLoc d ↦{q} T) ∗ (sLoc d L ↦[sRow p k]{fullShare} idxC I B))

/-- What the task owes, its waits so far those it began with and waits of its own. -/
abbrev Owing (O : CellTallies nD τ sig (HIx 1)) (W : Waits sig (HIx 1)) : sProp 𝕄 :=
  iprop(∃ W', ⌜∀ p ∈ W', p ∈ W ∨ p.2 = none⌝ ∗ owes (thr d L) O W')

variable [FloatOps F]

/-! ## The steps -/

/-- A fetch begins. -/
theorem fetch_step {off off' h h'} {p : Fin 2} {B : ℕ} (hB : B < 800) (e : off = ![p.val, 0, 0]) (e' : off' = ![4 * B, 0])
    {sem : DmaSem sig} (es : sem = inS p) {hs hd ht} {Q : PUnit → sProp 𝕄} :
    iprop((iLoc d ↦[iBlk B]{fullShare} I) ∗ (∃ f, sLoc d L ↦[sSlot p]{fullShare} f) ∗ semVal (thr d L, .dma (inS p)) 0
        ∗ (FetchFl d L I p B -∗ Q ⟨⟩))
      ⊢ wp frame (wpE (defs₀ (F := F)) 𝒱₀ (thr d L) none) Set.univ
          (Prog.lift (.enqueueDma (iBlkV off' h') (.here (sSlotV off h)) (.dma sem) hs hd ht)) Q := by
  subst es
  iintro ⟨Hi, ⟨%f, Hs⟩, Hv, HQ⟩
  ihave Hi' := (Entails.of_eq (show (iLoc d ↦[iBlk B]{fullShare} I : sProp 𝕄)
    = (iBlkV off' h').view.loc (thr d L) ↦[(iBlkV off' h').view.set]{fullShare} I by rw [set_iBlkV e'])) $$ Hi
  ihave Hs' := (Entails.of_eq (show (sLoc d L ↦[sSlot p]{fullShare} f : sProp 𝕄)
    = (sSlotV off h).view.loc (thr d L) ↦[sSlot p]{fullShare} f from rfl)) $$ Hs
  iapply (Transfers.wp_dmaLocal countersEmb 𝒱₀ (thr d L) none (k := .ret) (default : HIx 1) NIn rfl (by decide)
    (set_sSlotV (h := h) e).subset) $$ [Hi' Hs' Hv]
  · isplitl [Hi']; · iexact Hi'
    isplitl [Hs']; · iexact Hs'
    iexact Hv
  iintro Hfl
  rw [wp_ret]
  imodintro
  iapply HQ
  unfold FetchFl
  iapply (Transfers.Flight_mono (?_)) $$ Hfl
  iintro ⟨Hs, Hi⟩
  isplitl [Hi]
  · iapply (Entails.of_eq (show ((iBlkV off' h').view.loc (thr d L) ↦[(iBlkV off' h').view.set]{fullShare} I : sProp 𝕄)
      = iLoc d ↦[iBlk B]{fullShare} I by rw [set_iBlkV e'])) $$ Hi
  · iapply (Entails.of_eq (pointsTo_congr (ℓ := sLoc d L) (fetch_eq (F := F) I hB e e' f))) $$ Hs

/-- A gather begins. -/
theorem gather_step {off off' off₁ off₁' h h' h₁ h₁'} {p : Fin 2} {k : Fin 4} {B : ℕ} (hB : B < 800) (hI : ∀ j, (I j).toNat < 100000)
    (e : off = ![p.val, 0, 0]) (e' : off' = ![64 * k.val, 0]) (e₁ : off₁ = ![p.val, 0, 0]) (e₁' : off₁' = ![k.val, 0])
    {sem : DmaSem sig} (es : sem = gS k) {hp hn hs he hsp hr} {Q : PUnit → sProp 𝕄} :
    iprop((tLoc d ↦{q} T) ∗ (∃ f, rLoc d L ↦[rQtr p k]{fullShare} f) ∗ (sLoc d L ↦[sRow p k]{fullShare} idxC I B)
        ∗ semVal (thr d L, .dma (gS k)) 0 ∗ (GatherFl d L I T q p k B -∗ Q ⟨⟩))
      ⊢ wp frame (wpE (defs₀ (F := F)) 𝒱₀ (thr d L) none) Set.univ
          (SparseCore.enqueueIndirectGather hp tabV (rQtrV off h off' h') gathers_S100000x128_S64x128 (sRowV off₁ h₁ off₁' h₁') hn sem hs he hsp hr) Q := by
  subst es
  have hin : ∀ x, ((sRowV off₁ h₁ off₁' h₁').view.read (Elt F) (idxC I B) x).toNat < S100000x128.size gathers_S100000x128_S64x128.axis :=
    fun x => by rw [list_eq (F := F) I e₁ e₁']; exact hI _
  iintro ⟨Ht, ⟨%f, Hr⟩, Hs, Hv, HQ⟩
  ihave Ht' := (Entails.of_eq (show (tLoc d ↦{q} T : sProp 𝕄) = (tabV).view.loc (thr d L) ↦[(tabV).view.set]{q} T by rw [set_tabV])) $$ Ht
  ihave Hr' := (Entails.of_eq (show (rLoc d L ↦[rQtr p k]{fullShare} f : sProp 𝕄)
    = (rQtrV off h off' h').view.loc (thr d L) ↦[(rQtrV off h off' h').view.set]{fullShare} f by rw [set_rQtrV e e'])) $$ Hr
  ihave Hs' := (Entails.of_eq (show (sLoc d L ↦[sRow p k]{fullShare} idxC I B : sProp 𝕄)
    = (sRowV off₁ h₁ off₁' h₁').view.loc (thr d L) ↦[(sRowV off₁ h₁ off₁' h₁').view.set]{fullShare} idxC I B by rw [set_sRowV e₁ e₁'])) $$ Hs
  have hN : ∀ hg : S100000x128.Gathers 0 S64x128,
      ∑ j, ((rQtrV off h off' h').slice (S64x128.rowRect hg.axis' j) (S64x128.stride_rowRect hg.axis' j)).view.dmaCredit = NG := fun hg =>
    SparseCore.sum_rowCredit_eq_dmaCredit (rQtrV off h off' h') hg.axis' (fun _ => rfl)
  rw [← Prog.bind_pure (SparseCore.enqueueIndirectGather _ _ _ _ _ _ _ _ _ _ _)]
  iapply (SparseCore.wp_indirectGatherLocal countersEmb 𝒱₀ (thr d L) none (hg := gathers_S100000x128_S64x128) (default : HIx 1)
      NG (hN _) (by decide) hin) $$ [Ht' Hr' Hs' Hv]
  · isplitl [Ht']; · iexact Ht'
    isplitl [Hr']; · iexact Hr'
    isplitl [Hs']; · iexact Hs'
    iexact Hv
  iintro Hfl
  rw [wp_pure]
  imodintro
  iapply HQ
  unfold GatherFl
  iapply (Transfers.Flight_mono (?_)) $$ Hfl
  iintro ⟨Hr, Ht, Hs⟩
  isplitl [Hr]
  · ihave Hr' := (Entails.of_eq (show ((rQtrV off h off' h').view.loc (thr d L) ↦[(rQtrV off h off' h').view.set]{fullShare} _ : sProp 𝕄)
      = rLoc d L ↦[rQtr p k]{fullShare} _ by rw [set_rQtrV e e'])) $$ Hr
    iapply (Entails.of_eq (pointsTo_congr (ℓ := rLoc d L) (gather_eq I T hB k.isLt hI e e' e₁ e₁' f hn hin))) $$ Hr'
  isplitl [Ht]
  · iapply (Entails.of_eq (show ((tabV).view.loc (thr d L) ↦[(tabV).view.set]{q} T : sProp 𝕄) = tLoc d ↦{q} T by rw [set_tabV])) $$ Ht
  · iapply (Entails.of_eq (show ((sRowV off₁ h₁ off₁' h₁').view.loc (thr d L) ↦[(sRowV off₁ h₁ off₁' h₁').view.set]{fullShare} idxC I B : sProp 𝕄)
      = sLoc d L ↦[sRow p k]{fullShare} idxC I B by rw [set_sRowV e₁ e₁'])) $$ Hs

/-- A write-out begins. -/
theorem flush_step {off off' h h'} {p : Fin 2} {B : ℕ} (hB : B < 800) (e : off = ![p.val, 0, 0]) (e' : off' = ![256 * B, 0])
    {sem : DmaSem sig} (es : sem = outS p) {hs hd ht} (f : S204800x128.Idx → F .f32) {Q : PUnit → sProp 𝕄} :
    iprop((rLoc d L ↦[rSlot p]{fullShare} rowC I T B) ∗ (oLoc d ↦[oBlk B]{fullShare} f) ∗ semVal (thr d L, .dma (outS p)) 0
        ∗ (FlushFl d L I T p B -∗ Q ⟨⟩))
      ⊢ wp frame (wpE (defs₀ (F := F)) 𝒱₀ (thr d L) none) Set.univ
          (Prog.lift (.enqueueDma (rSlotV off h) (.here (oBlkV off' h')) (.dma sem) hs hd ht)) Q := by
  subst es
  iintro ⟨Hr, Ho, Hv, HQ⟩
  ihave Hr' := (Entails.of_eq (show (rLoc d L ↦[rSlot p]{fullShare} rowC I T B : sProp 𝕄)
    = (rSlotV off h).view.loc (thr d L) ↦[(rSlotV off h).view.set]{fullShare} rowC I T B by rw [set_rSlotV e])) $$ Hr
  ihave Ho' := (Entails.of_eq (show (oLoc d ↦[oBlk B]{fullShare} f : sProp 𝕄)
    = (oBlkV off' h').view.loc (thr d L) ↦[oBlk B]{fullShare} f from rfl)) $$ Ho
  iapply (Transfers.wp_dmaLocal countersEmb 𝒱₀ (thr d L) none (k := .ret) (default : HIx 1) NOut rfl (by decide)
    (set_oBlkV (h := h') e').subset) $$ [Hr' Ho' Hv]
  · isplitl [Hr']; · iexact Hr'
    isplitl [Ho']; · iexact Ho'
    iexact Hv
  iintro Hfl
  rw [wp_ret]
  imodintro
  iapply HQ
  unfold FlushFl
  iapply (Transfers.Flight_mono (?_)) $$ Hfl
  iintro ⟨Ho, Hr⟩
  isplitl [Ho]
  · iapply (Entails.of_eq (pointsTo_congr (ℓ := oLoc d) (flush_eq I T hB e e' f))) $$ Ho
  · iapply (Entails.of_eq (show ((rSlotV off h).view.loc (thr d L) ↦[(rSlotV off h).view.set]{fullShare} rowC I T B : sProp 𝕄)
      = rLoc d L ↦[rSlot p]{fullShare} rowC I T B by rw [set_rSlotV e])) $$ Hr

/-- A wait for a copy in flight: what it delivers, and its semaphore at zero. -/
theorem wait_step {sp sp' : Space} {s s' : Shape} {e e' : EltTy} {κ' : Kind} {sem sem' : DmaSem sig} (es : sem = sem')
    {srcw : Memref sig (thr d L).2.kind sp' s' e'} {dstw : Memref sig κ' sp s e} {hs hd} {N : ℕ} (hN : dstw.view.dmaCredit = N) {R : sProp 𝕄}
    {O : CellTallies nD τ sig (HIx 1)} {W : Waits sig (HIx 1)} {Q : PUnit → sProp 𝕄} :
    iprop(Transfers.Flight countersEmb (thr d L) (.dma sem') (default : HIx 1) N R ∗ Transfers.MayWaits (thr d L) (default : HIx 1) O ∗ Owing d L O W
        ∗ (iprop(R ∗ semVal (thr d L, .dma sem') 0 ∗ Owing d L O W) -∗ Q ⟨⟩))
      ⊢ wp frame (wpE (defs₀ (F := F)) 𝒱₀ (thr d L) none) Set.univ (Prog.lift (.waitDma2 sem srcw dstw hs hd)) Q := by
  subst es
  iintro ⟨Hfl, Hmw, ⟨%W', %hW', HO⟩, HQ⟩
  iapply (Transfers.wp_waitLocalO countersEmb 𝒱₀ (thr d L) none (k := .ret) (default : HIx 1) hN) $$ [Hfl HO Hmw]
  · isplitl [Hfl]; · iexact Hfl
    isplitl [HO]; · iexact HO
    iapply (Transfers.MayWaits.elim (SemLoc.dma sem)) $$ Hmw
  iintro ⟨HR, Hv, HO⟩
  rw [wp_ret]
  imodintro
  iapply HQ
  isplitl [HR]; · iexact HR
  isplitl [Hv]; · iexact Hv
  iexists (insert (SemLoc.dma sem, default) W')
  isplitr
  · ipureintro; intro p hp
    rcases Finset.mem_insert.mp hp with hp | hp; · exact .inr (hp ▸ rfl)
    exact hW' p hp
  · iexact HO

/-- The same for a gather's wait. -/
theorem wait_gather_step {sp' : Space} {s s' : Shape} {e e' : EltTy} {κ' : Kind} {sem sem' : DmaSem sig} (es : sem = sem')
    {srcw : Memref sig (thr d L).2.kind sp' s' e'} {dstw : Memref sig κ' .vmem s e} {hs hd} {N : ℕ} (hN : dstw.view.dmaCredit = N) {R : sProp 𝕄}
    {O : CellTallies nD τ sig (HIx 1)} {W : Waits sig (HIx 1)} {Q : PUnit → sProp 𝕄} :
    iprop(Transfers.Flight countersEmb (thr d L) (.dma sem') (default : HIx 1) N R ∗ Transfers.MayWaits (thr d L) (default : HIx 1) O ∗ Owing d L O W
        ∗ (iprop(R ∗ semVal (thr d L, .dma sem') 0 ∗ Owing d L O W) -∗ Q ⟨⟩))
      ⊢ wp frame (wpE (defs₀ (F := F)) 𝒱₀ (thr d L) none) Set.univ (SparseCore.waitIndirectGather (p := (thr d L).2) sem srcw dstw hs hd) Q :=
  wait_step d L es hN

end Cert.Proof.Lookup

end
-- ==== Proof.Trip.lean ====
/-
  ONE TRIP OF THE PIPELINE'S LOOP, part by part as the program is cut: begin the next block's fetch (part 1), await this
  block's and begin its first gather (part 2), begin the other three (part 3), await them (parts 4 and 5), begin this
  block's write-out and await the one before (part 5). Each part takes what it uses and hands on what it leaves.
-/
module

public import proofs.«01_k».proof.Proof.Steps

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S3200x64 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scoped0 : Memref Cert.KernelIdeal.sig Kind.scVector Space.vmem Cert.KernelIdeal.S2x4x64 EltTy.i32)
local notation "rV" => (Memref.whole Cert.KernelIdeal.cc0_scoped2 : Memref Cert.KernelIdeal.sig Kind.scVector Space.vmem Cert.KernelIdeal.S2x256x128 EltTy.f32)

/-! ## Slots split into the gathers' pieces -/

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- The slot of block `n` of a task. -/
def pp (n : ℕ) : Fin 2 := ⟨n % 2, Nat.mod_lt _ (by decide)⟩

variable (d : Dev nD) (L : grid0.Coords)

theorem rSlot_split (p : ℕ) (f : S2x256x128.Idx → F .f32) :
    (rLoc d L ↦[rSlot p]{fullShare} f : sProp 𝕄) = iprop((rLoc d L ↦[rQtr p 0]{fullShare} f) ∗ (rLoc d L ↦[rQtr p 1]{fullShare} f)
      ∗ (rLoc d L ↦[rQtr p 2]{fullShare} f) ∗ (rLoc d L ↦[rQtr p 3]{fullShare} f)) := by
  have hd : ∀ i ∈ (Finset.univ : Finset (Fin 4)), ∀ j ∈ (Finset.univ : Finset (Fin 4)), i ≠ j → Disjoint (rQtr p i) (rQtr p j) := by
    intro i _ j _ h
    refine Finset.disjoint_left.mpr fun x hi hj => h (Fin.ext ?_)
    simp only [rQtr, Finset.mem_filter] at hi hj
    omega
  have hc : (Finset.univ : Finset (Fin 4)).biUnion (fun k => rQtr p k) = rSlot p := by
    ext x
    simp only [Finset.mem_biUnion, Finset.mem_univ, true_and, rQtr, rSlot, Finset.mem_filter]
    have h1 : (x 1).val < 256 := (x 1).isLt
    exact ⟨fun ⟨_, h, _⟩ => h, fun h => ⟨⟨(x 1).val / 64, by omega⟩, h, rfl⟩⟩
  have e : (rLoc d L ↦[(Finset.univ : Finset (Fin 4)).biUnion fun k => rQtr p k]{fullShare} f : sProp 𝕄)
      = bigSep Finset.univ fun k : Fin 4 => rLoc d L ↦[rQtr p k]{fullShare} f :=
    pointsTo_biUnion Finset.univ (ℓ := rLoc d L) (fun k : Fin 4 => rQtr p k) hd
  rw [hc] at e
  exact e.trans (bigSep_four _)

theorem sSlot_split (p : ℕ) (f : S2x4x64.Idx → BitVec 32) :
    (sLoc d L ↦[sSlot p]{fullShare} f : sProp 𝕄) = iprop((sLoc d L ↦[sRow p 0]{fullShare} f) ∗ (sLoc d L ↦[sRow p 1]{fullShare} f)
      ∗ (sLoc d L ↦[sRow p 2]{fullShare} f) ∗ (sLoc d L ↦[sRow p 3]{fullShare} f)) := by
  have hd : ∀ i ∈ (Finset.univ : Finset (Fin 4)), ∀ j ∈ (Finset.univ : Finset (Fin 4)), i ≠ j → Disjoint (sRow p i) (sRow p j) := by
    intro i _ j _ h
    refine Finset.disjoint_left.mpr fun x hi hj => h (Fin.ext ?_)
    simp only [sRow, Finset.mem_filter] at hi hj
    omega
  have hc : (Finset.univ : Finset (Fin 4)).biUnion (fun k => sRow p k) = sSlot p := by
    ext x
    simp only [Finset.mem_biUnion, Finset.mem_univ, true_and, sRow, sSlot, Finset.mem_filter]
    exact ⟨fun ⟨_, h, _⟩ => h, fun h => ⟨x 1, h, rfl⟩⟩
  have e : (sLoc d L ↦[(Finset.univ : Finset (Fin 4)).biUnion fun k => sRow p k]{fullShare} f : sProp 𝕄)
      = bigSep Finset.univ fun k : Fin 4 => sLoc d L ↦[sRow p k]{fullShare} f :=
    pointsTo_biUnion Finset.univ (ℓ := sLoc d L) (fun k : Fin 4 => sRow p k) hd
  rw [hc] at e
  exact e.trans (bigSep_four _)

/-- Gather `k`'s share of a share of the table. -/
abbrev tq (q : PosShare TreeShare) (k : Fin 4) : PosShare TreeShare := Idealize.ShloMosaic.pieceOf q 4 (by decide) k

theorem tab_split (q : PosShare TreeShare) (T : S100000x128.Idx → F .f32) :
    (tLoc d ↦{q} T : sProp 𝕄) = iprop((tLoc d ↦{tq q 0} T) ∗ (tLoc d ↦{tq q 1} T) ∗ (tLoc d ↦{tq q 2} T) ∗ (tLoc d ↦{tq q 3} T)) := by
  have e := Idealize.ShloMosaic.pointsTo_piecesOf (nD := nD) (τ := τ) (sig := sig) (Ix := HIx 1) (Val := Elt F) (Name := ℕ) (U := UU) (Lvl := ℕ) (ℓ := tLoc d) Finset.univ T (o := 4) (by decide) q
  rw [bigSep_four] at e
  exact e

/-! ## The parts of a trip -/

variable (I : S3200x64.Idx → BitVec 32) (T : S100000x128.Idx → F .f32) (q : PosShare TreeShare) (t : Fin k0_t1_loop.trips)

theorem t_lt : t.val < 25 := lt_of_lt_of_eq t.isLt trips_eq
theorem wid_lt (L : grid0.Coords) : wid L < 32 := by
  have h0 : (L 0).val < 2 := (L 0).isLt
  have h1 : (L 1).val < 16 := (L 1).isLt
  show (L 1).val + 16 * (L 0).val < 32
  omega
theorem bno_lt (L : grid0.Coords) {n : ℕ} (h : n < 25) : bno L n < 800 := by
  have := wid_lt L
  show 25 * wid L + n < 800
  omega

/-- An index slot free: its elements, whatever they hold, and its semaphore at zero. -/
abbrev InFree (p : Fin 2) : sProp 𝕄 := iprop((∃ f, sLoc d L ↦[sSlot p]{fullShare} f) ∗ semVal (thr d L, .dma (inS p)) 0)
/-- A row slot free. -/
abbrev OutFree (p : Fin 2) : sProp 𝕄 := iprop((∃ f, rLoc d L ↦[rSlot p]{fullShare} f) ∗ semVal (thr d L, .dma (outS p)) 0)
/-- The fetch of the task's block `n` in flight, if it has one. -/
def InAt (n : ℕ) : sProp 𝕄 := if n < 25 then FetchFl d L I (pp n) (bno L n) else InFree d L (pp n)
/-- The write-out of the task's block before `n` in flight, if it has one. -/
def OutAt (n : ℕ) : sProp 𝕄 := if 0 < n then FlushFl d L I T (pp (n + 1)) (bno L (n - 1)) else OutFree d L (pp (n + 1))

variable [FloatOps F]

/-- A check of the program that holds. -/
theorem assume_step {P : Prop} {dec : Decidable P} (h : P) {Q : PLift P → sProp 𝕄} :
    Q ⟨h⟩ ⊢ wp frame (wpE (defs₀ (F := F)) 𝒱₀ (thr d L) none) Set.univ (Prog.lift (.assume P dec)) Q := by
  show _ ⊢ wp frame (wpE (defs₀ (F := F)) 𝒱₀ (thr d L) none) Set.univ (.op (.assume P dec) .ret) Q
  rw [wp_assume_of _ _ _ _ h, wp_ret]
  exact fupd_intro

/-- Part 1: the checks pass, and the next block's fetch begins. -/
theorem part1 {Q : _ → sProp 𝕄} :
    iprop((if t.val + 1 < 25 then (iLoc d ↦[iBlk (bno L (t.val + 1))]{fullShare} I) else iprop(emp)) ∗ InFree d L (pp (t.val + 1))
        ∗ (InAt d L I (t.val + 1) -∗ Q ⟨chk3 t, chk2 t, chk1 L t, w6 t, w64 t, w65 t, w66 L (a11 t.val), w71 L (a11 t.val), w76 L (a11 t.val),
            w91 L t (a11 t.val) (a7 t.val), w96 L (a11 t.val)⟩))
      ⊢ wp frame (wpE (defs₀ (F := F)) 𝒱₀ (thr d L) none) Set.univ
          (k0_part1 L tV (Memref.isWhole_whole _) iV (Memref.isWhole_whole _) oV (Memref.isWhole_whole _) cc0_scratch0
            sV (Memref.isWhole_whole _) cc0_scoped1 rV (Memref.isWhole_whole _) cc0_scoped3 (base L) 0#32 1#32 t
            (a7 t.val) (a8 t.val) (a9 t.val) (a10 t.val) (a11 t.val)) Q := by
  rw [k0_part1_eq_skeleton]
  unfold k0_part1_skel
  simp only [wp_bind, wp_pure]
  refine BIBase.Entails.trans ?_ (assume_step d L (chk3 t))
  refine BIBase.Entails.trans ?_ (assume_step d L (chk2 t))
  refine BIBase.Entails.trans ?_ (assume_step d L (chk1 L t))
  by_cases h : t.val < 24
  · rw [dif_pos ((cond1_iff L t).mpr h), if_pos (by omega)]
    unfold InAt
    rw [if_pos (by omega)]
    simp only [wp_bind, wp_pure]
    iintro ⟨Hi, ⟨Hs, Hv⟩, HQ⟩
    iapply (fetch_step d L I (bno_lt L (by omega)) (p := pp (t.val + 1)) (off4_eq t h) (off5_eq L t h) (sem_in (off6_eq t h))) $$ [Hi Hs Hv HQ]
    isplitl [Hi]; · iexact Hi
    isplitl [Hs]; · iexact Hs
    isplitl [Hv]; · iexact Hv
    iintro Hf
    imodintro
    iapply HQ $$ Hf
  · rw [dif_neg (fun e => h ((cond1_iff L t).mp e)), if_neg (by omega)]
    unfold InAt
    rw [if_neg (by omega)]
    simp only [wp_bind, wp_pure]
    iintro ⟨-, Hs, HQ⟩
    imodintro
    iapply HQ $$ Hs

/-- The gather `k` of trip `t`, in flight. -/
abbrev Gat (k : Fin 4) : sProp 𝕄 := GatherFl d L I T (tq q k) (pp t.val) k (bno L t.val)
/-- Row `k` of trip `t`'s index slot, its fetch arrived. -/
abbrev Row (k : Fin 4) : sProp 𝕄 := iprop(sLoc d L ↦[sRow (pp t.val) k]{fullShare} idxC I (bno L t.val))
/-- Quarter `k` of trip `t`'s row slot, whatever it holds. -/
abbrev Qtr (k : Fin 4) : sProp 𝕄 := iprop(∃ f, rLoc d L ↦[rQtr (pp t.val) k]{fullShare} f)
/-- Quarter `k` of trip `t`'s row slot, its gather arrived. -/
abbrev QtrDone (k : Fin 4) : sProp 𝕄 := iprop(rLoc d L ↦[rQtr (pp t.val) k]{fullShare} rowC I T (bno L t.val))

variable {O : CellTallies nD τ sig (HIx 1)} {W : Waits sig (HIx 1)}

/-- Part 2: the block's fetch is awaited, and the first gather begins. -/
theorem part2 (hI : ∀ j, (I j).toNat < 100000) (hw3) (hw2) (hw1) {Q : PUnit → sProp 𝕄} :
    iprop(FetchFl d L I (pp t.val) (bno L t.val) ∗ Transfers.MayWaits (thr d L) (default : HIx 1) O ∗ Owing d L O W
        ∗ (tLoc d ↦{tq q 0} T) ∗ Qtr d L t 0 ∗ semVal (thr d L, .dma (gS 0)) 0
        ∗ (iprop((iLoc d ↦[iBlk (bno L t.val)]{fullShare} I) ∗ semVal (thr d L, .dma (inS (pp t.val))) 0 ∗ Owing d L O W
            ∗ Gat d L I T q t 0 ∗ Row d L I t 1 ∗ Row d L I t 2 ∗ Row d L I t 3) -∗ Q ⟨⟩))
      ⊢ wp frame (wpE (defs₀ (F := F)) 𝒱₀ (thr d L) none) Set.univ
          (k0_part2 L tV (Memref.isWhole_whole _) iV (Memref.isWhole_whole _) oV (Memref.isWhole_whole _) cc0_scratch0
            sV (Memref.isWhole_whole _) cc0_scoped1 rV (Memref.isWhole_whole _) cc0_scoped3 t
            (a7 t.val) (a8 t.val) (a9 t.val) (a10 t.val) (a11 t.val) hw3 hw2 hw1 (w6 t) (w64 t) (w66 L (a11 t.val)) (w71 L (a11 t.val)) (w96 L (a11 t.val))) Q := by
  rw [k0_part2_eq_skeleton]
  unfold k0_part2_skel
  simp only [wp_bind, wp_pure, dif_pos (cond2 L t), pure_bind, ite_self]
  unfold FetchFl
  iintro ⟨Hf, Hmw, HO, Ht, Hr, Hv, HQ⟩
  iapply (wait_step d L (sem_in (p := pp t.val) (off9_eq t)) rfl) $$ [Hf Hmw HO Ht Hr Hv HQ]
  isplitl [Hf]; · iexact Hf
  isplitl [Hmw]; · iexact Hmw
  isplitl [HO]; · iexact HO
  iintro ⟨⟨Hi, Hs⟩, Hin, HO⟩
  ihave Hs := (Entails.of_eq (sSlot_split d L _ _)) $$ Hs
  icases Hs with ⟨Hs0, Hs1, Hs2, Hs3⟩
  iapply (gather_step d L I T (tq q 0) (p := pp t.val) (k := 0) (bno_lt L (t_lt t)) hI (off10_eq t) rfl (off11_eq t) rfl (sem_g rfl)) $$ [Hi Hs0 Hs1 Hs2 Hs3 Hin HO Ht Hr Hv HQ]
  isplitl [Ht]; · iexact Ht
  isplitl [Hr]; · iexact Hr
  isplitl [Hs0]; · iexact Hs0
  isplitl [Hv]; · iexact Hv
  iintro Hg
  imodintro
  iapply HQ
  isplitl [Hi]; · iexact Hi
  isplitl [Hin]; · iexact Hin
  isplitl [HO]; · iexact HO
  isplitl [Hg]; · iexact Hg
  isplitl [Hs1]; · iexact Hs1
  isplitl [Hs2]; · iexact Hs2
  iexact Hs3

/-- Part 3: the other three gathers begin. -/
theorem part3 (hI : ∀ j, (I j).toNat < 100000) (hw3) (hw2) {Q : PUnit → sProp 𝕄} :
    iprop(((tLoc d ↦{tq q 1} T) ∗ Qtr d L t 1 ∗ Row d L I t 1 ∗ semVal (thr d L, .dma (gS 1)) 0)
        ∗ ((tLoc d ↦{tq q 2} T) ∗ Qtr d L t 2 ∗ Row d L I t 2 ∗ semVal (thr d L, .dma (gS 2)) 0)
        ∗ ((tLoc d ↦{tq q 3} T) ∗ Qtr d L t 3 ∗ Row d L I t 3 ∗ semVal (thr d L, .dma (gS 3)) 0)
        ∗ (iprop(Gat d L I T q t 1 ∗ Gat d L I T q t 2 ∗ Gat d L I T q t 3) -∗ Q ⟨⟩))
      ⊢ wp frame (wpE (defs₀ (F := F)) 𝒱₀ (thr d L) none) Set.univ
          (k0_part3 L tV (Memref.isWhole_whole _) iV (Memref.isWhole_whole _) oV (Memref.isWhole_whole _) cc0_scratch0
            sV (Memref.isWhole_whole _) cc0_scoped1 rV (Memref.isWhole_whole _) cc0_scoped3
            (a8 t.val) (a9 t.val) hw3 hw2) Q := by
  rw [k0_part3_eq_skeleton]
  unfold k0_part3_skel
  simp only [wp_bind, wp_pure]
  iintro ⟨⟨Ht1, Hr1, Hs1, Hv1⟩, ⟨Ht2, Hr2, Hs2, Hv2⟩, ⟨Ht3, Hr3, Hs3, Hv3⟩, HQ⟩
  iapply (gather_step d L I T (tq q 1) (p := pp t.val) (k := 1) (bno_lt L (t_lt t)) hI (off10_eq t) rfl (off11_eq t) rfl (sem_g rfl))
    $$ [Ht1 Hr1 Hs1 Hv1 Ht2 Hr2 Hs2 Hv2 Ht3 Hr3 Hs3 Hv3 HQ]
  isplitl [Ht1]; · iexact Ht1
  isplitl [Hr1]; · iexact Hr1
  isplitl [Hs1]; · iexact Hs1
  isplitl [Hv1]; · iexact Hv1
  iintro Hg1
  iapply (gather_step d L I T (tq q 2) (p := pp t.val) (k := 2) (bno_lt L (t_lt t)) hI (off10_eq t) rfl (off11_eq t) rfl (sem_g rfl))
    $$ [Hg1 Ht2 Hr2 Hs2 Hv2 Ht3 Hr3 Hs3 Hv3 HQ]
  isplitl [Ht2]; · iexact Ht2
  isplitl [Hr2]; · iexact Hr2
  isplitl [Hs2]; · iexact Hs2
  isplitl [Hv2]; · iexact Hv2
  iintro Hg2
  iapply (gather_step d L I T (tq q 3) (p := pp t.val) (k := 3) (bno_lt L (t_lt t)) hI (off10_eq t) rfl (off11_eq t) rfl (sem_g rfl))
    $$ [Hg1 Hg2 Ht3 Hr3 Hs3 Hv3 HQ]
  isplitl [Ht3]; · iexact Ht3
  isplitl [Hr3]; · iexact Hr3
  isplitl [Hs3]; · iexact Hs3
  isplitl [Hv3]; · iexact Hv3
  iintro Hg3
  imodintro
  iapply HQ
  isplitl [Hg1]; · iexact Hg1
  isplitl [Hg2]; · iexact Hg2
  iexact Hg3

/-- What a gather's wait gives: its quarter filled, its share of the table, its row of the list, its semaphore. -/
abbrev Got (k : Fin 4) : sProp 𝕄 :=
  iprop(QtrDone d L I T t k ∗ (tLoc d ↦{tq q k} T) ∗ Row d L I t k ∗ semVal (thr d L, .dma (gS k)) 0)

/-- A gather's wait. -/
theorem got_step (k : Fin 4) {sem : DmaSem sig} (es : sem = gS k) {off h off' h'} {hs hd} {Q : PUnit → sProp 𝕄} :
    iprop(Gat d L I T q t k ∗ Transfers.MayWaits (thr d L) (default : HIx 1) O ∗ Owing d L O W
        ∗ (iprop(Got d L I T q t k ∗ Owing d L O W) -∗ Q ⟨⟩))
      ⊢ wp frame (wpE (defs₀ (F := F)) 𝒱₀ (thr d L) none) Set.univ
          (SparseCore.waitIndirectGather (p := (thr d L).2) sem tabV (rQtrV off h off' h') hs hd) Q := by
  unfold Gat GatherFl
  refine BIBase.Entails.trans ?_ (wait_gather_step (srcw := tabV) (dstw := rQtrV off h off' h') (hs := hs) (hd := hd) (O := O) (W := W) (N := NG)
    (R := iprop(QtrDone d L I T t k ∗ (tLoc d ↦{tq q k} T) ∗ Row d L I t k)) d L es rfl)
  iintro ⟨Hg, Hmw, HO, HQ⟩
  isplitl [Hg]; · iexact Hg
  isplitl [Hmw]; · iexact Hmw
  isplitl [HO]; · iexact HO
  iintro ⟨⟨Hr, Ht, Hs⟩, Hv, HO⟩
  iapply HQ
  isplitr [HO]
  · isplitl [Hr]; · iexact Hr
    isplitl [Ht]; · iexact Ht
    isplitl [Hs]; · iexact Hs
    iexact Hv
  iexact HO

/-- Part 4: three of the gathers are awaited. -/
theorem part4 (hw3) (hw2) {Q : PUnit → sProp 𝕄} :
    iprop(Gat d L I T q t 0 ∗ Gat d L I T q t 1 ∗ Gat d L I T q t 2 ∗ Transfers.MayWaits (thr d L) (default : HIx 1) O ∗ Owing d L O W
        ∗ (iprop(Got d L I T q t 0 ∗ Got d L I T q t 1 ∗ Got d L I T q t 2 ∗ Owing d L O W) -∗ Q ⟨⟩))
      ⊢ wp frame (wpE (defs₀ (F := F)) 𝒱₀ (thr d L) none) Set.univ
          (k0_part4 L tV (Memref.isWhole_whole _) iV (Memref.isWhole_whole _) oV (Memref.isWhole_whole _) cc0_scratch0
            sV (Memref.isWhole_whole _) cc0_scoped1 rV (Memref.isWhole_whole _) cc0_scoped3
            (a8 t.val) (a9 t.val) hw3 hw2) Q := by
  rw [k0_part4_eq_skeleton]
  unfold k0_part4_skel
  simp only [wp_bind, wp_pure]
  iintro ⟨Hg0, Hg1, Hg2, #Hmw, HO, HQ⟩
  iapply (got_step d L I T q t 0 (sem_g rfl)) $$ [Hg0 Hg1 Hg2 HO HQ]
  isplitl [Hg0]; · iexact Hg0
  isplitr; · iexact Hmw
  isplitl [HO]; · iexact HO
  iintro ⟨Hg0, HO⟩
  iapply (got_step d L I T q t 1 (sem_g rfl)) $$ [Hg0 Hg1 Hg2 HO HQ]
  isplitl [Hg1]; · iexact Hg1
  isplitr; · iexact Hmw
  isplitl [HO]; · iexact HO
  iintro ⟨Hg1, HO⟩
  iapply (got_step d L I T q t 2 (sem_g rfl)) $$ [Hg0 Hg1 Hg2 HO HQ]
  isplitl [Hg2]; · iexact Hg2
  isplitr; · iexact Hmw
  isplitl [HO]; · iexact HO
  iintro ⟨Hg2, HO⟩
  imodintro
  iapply HQ
  isplitl [Hg0]; · iexact Hg0
  isplitl [Hg1]; · iexact Hg1
  isplitl [Hg2]; · iexact Hg2
  iexact HO

/-- What the write-out of the block before leaves, once awaited: the block, if there is one. -/
def Before (n : ℕ) : sProp 𝕄 := if 0 < n then iprop(oLoc d ↦[oBlk (bno L (n - 1))]{fullShare} outC I T) else iprop(emp)

theorem slot_before {n : ℕ} (h : 0 < n) : (![(n - 1) % 2] : Fin 1 → ℕ) = ![(pp (n + 1)).val] := by
  have e : (n - 1) % 2 = (n + 1) % 2 := by omega
  exact congrArg (fun x => (![x] : Fin 1 → ℕ)) e

/-- The write-out of the block before is awaited if there is one. -/
theorem out_wait {α : Type} {P : Prop} [Decidable P] (hP : P ↔ 0 < t.val)
    (w : P → Prog (TpuEff nD τ sig (Elt F) Λ₀ (thr d L).2) PUnit) (a : α)
    (hw : ∀ (h : P) (_ : 0 < t.val) (Q' : PUnit → sProp 𝕄),
      iprop(Transfers.Flight countersEmb (thr d L) (.dma (outS (pp (t.val + 1)))) (default : HIx 1) NOut
            iprop((oLoc d ↦[oBlk (bno L (t.val - 1))]{fullShare} outC I T) ∗ (rLoc d L ↦[rSlot (pp (t.val + 1))]{fullShare} rowC I T (bno L (t.val - 1))))
          ∗ Transfers.MayWaits (thr d L) (default : HIx 1) O ∗ Owing d L O W
          ∗ (iprop(iprop((oLoc d ↦[oBlk (bno L (t.val - 1))]{fullShare} outC I T) ∗ (rLoc d L ↦[rSlot (pp (t.val + 1))]{fullShare} rowC I T (bno L (t.val - 1))))
              ∗ semVal (thr d L, .dma (outS (pp (t.val + 1)))) 0 ∗ Owing d L O W) -∗ Q' ⟨⟩))
        ⊢ wp frame (wpE (defs₀ (F := F)) 𝒱₀ (thr d L) none) Set.univ (w h) Q') {Q : α → sProp 𝕄} :
    iprop(OutAt d L I T t.val ∗ Transfers.MayWaits (thr d L) (default : HIx 1) O ∗ Owing d L O W
        ∗ (iprop(Before d L I T t.val ∗ OutFree d L (pp (t.val + 1)) ∗ Owing d L O W) -∗ Q a))
      ⊢ wp frame (wpE (defs₀ (F := F)) 𝒱₀ (thr d L) none) Set.univ
          (if h : P then (do w h; pure a) else pure a) Q := by
  unfold OutAt Before
  by_cases h : 0 < t.val
  · rw [dif_pos (hP.mpr h), if_pos h, if_pos h]
    simp only [wp_bind, wp_pure]
    unfold FlushFl
    iintro ⟨Hp, Hmw, HO, HQ⟩
    iapply (hw (hP.mpr h) h _) $$ [Hp Hmw HO HQ]
    isplitl [Hp]; · iexact Hp
    isplitl [Hmw]; · iexact Hmw
    isplitl [HO]; · iexact HO
    iintro ⟨⟨Ho, Hr⟩, Hv, HO⟩
    imodintro
    iapply HQ
    isplitl [Ho]; · iexact Ho
    isplitl [Hr Hv]
    · isplitl [Hr]
      · iexists _; iexact Hr
      iexact Hv
    iexact HO
  · rw [dif_neg (fun e => h (hP.mp e)), if_neg h, if_neg h, wp_pure]
    iintro ⟨Hp, -, HO, HQ⟩
    imodintro
    iapply HQ
    isplitr; · iempintro
    isplitl [Hp]; · iexact Hp
    iexact HO

/-- Part 5: the last gather is awaited, the block's write-out begins, and the write-out of the block before is awaited. -/
theorem part5 (hw3) (hw2) (hw1) (f : S204800x128.Idx → F .f32) {Q : _ → sProp 𝕄} :
    iprop(Gat d L I T q t 3 ∗ QtrDone d L I T t 0 ∗ QtrDone d L I T t 1 ∗ QtrDone d L I T t 2
        ∗ Transfers.MayWaits (thr d L) (default : HIx 1) O ∗ Owing d L O W
        ∗ (oLoc d ↦[oBlk (bno L t.val)]{fullShare} f) ∗ semVal (thr d L, .dma (outS (pp t.val))) 0 ∗ OutAt d L I T t.val
        ∗ (iprop(((tLoc d ↦{tq q 3} T) ∗ Row d L I t 3 ∗ semVal (thr d L, .dma (gS 3)) 0) ∗ Owing d L O W
            ∗ FlushFl d L I T (pp t.val) (bno L t.val)
            ∗ Before d L I T t.val ∗ OutFree d L (pp (t.val + 1)))
            -∗ Q ⟨w201 L t (a11 t.val) (a9 t.val), w215 L t (a11 t.val) (a10 t.val), w216 L (a11 t.val)⟩))
      ⊢ wp frame (wpE (defs₀ (F := F)) 𝒱₀ (thr d L) none) Set.univ
          (k0_part5 L tV (Memref.isWhole_whole _) iV (Memref.isWhole_whole _) oV (Memref.isWhole_whole _) cc0_scratch0
            sV (Memref.isWhole_whole _) cc0_scoped1 rV (Memref.isWhole_whole _) cc0_scoped3 t
            (a7 t.val) (a8 t.val) (a9 t.val) (a10 t.val) (a11 t.val) hw3 hw2 hw1 (w64 t) (w65 t) (w66 L (a11 t.val)) (w71 L (a11 t.val)) (w76 L (a11 t.val))) Q := by
  rw [k0_part5_eq_skeleton]
  unfold k0_part5_skel
  simp only [wp_bind, wp_pure, dif_pos (cond5 L t), pure_bind, ite_self]
  iintro ⟨Hg3, Hr0, Hr1, Hr2, #Hmw, HO, Ho, Hv, Hp, HQ⟩
  iapply (got_step d L I T q t 3 (sem_g rfl)) $$ [Hg3 Hr0 Hr1 Hr2 HO Ho Hv Hp HQ]
  isplitl [Hg3]; · iexact Hg3
  isplitr; · iexact Hmw
  isplitl [HO]; · iexact HO
  iintro ⟨⟨Hr3, Ht3, Hs3, Hv3⟩, HO⟩
  ihave Hr := (Entails.of_eq (rSlot_split d L (pp t.val) (rowC I T (bno L t.val))).symm) $$ [Hr0 Hr1 Hr2 Hr3]
  · isplitl [Hr0]; · iexact Hr0
    isplitl [Hr1]; · iexact Hr1
    isplitl [Hr2]; · iexact Hr2
    iexact Hr3
  iapply (flush_step d L I T (bno_lt L (t_lt t)) (p := pp t.val) (off12_eq t) (off13_eq L t) (sem_out (off14_eq t)) f) $$ [Hr Ht3 Hs3 Hv3 HO Ho Hv Hp HQ]
  isplitl [Hr]; · iexact Hr
  isplitl [Ho]; · iexact Ho
  isplitl [Hv]; · iexact Hv
  iintro Hfl
  iapply (out_wait (O := O) (W := W) d L I T t (cond7_iff L t) _ _ (by intro h hlt Q'; apply wait_step d L (sem_out (p := pp (t.val + 1)) ((off17_eq t hlt).trans (slot_before hlt))); rfl)) $$ [Hfl Ht3 Hs3 Hv3 HO Hp HQ]
  isplitl [Hp]; · iexact Hp
  isplitr; · iexact Hmw
  isplitl [HO]; · iexact HO
  iintro ⟨Ho, Hp, HO⟩
  iapply HQ
  isplitl [Ht3 Hs3 Hv3]
  · isplitl [Ht3]; · iexact Ht3
    isplitl [Hs3]; · iexact Hs3
    iexact Hv3
  isplitl [HO]; · iexact HO
  isplitl [Hfl]; · iexact Hfl
  isplitl [Ho]; · iexact Ho
  iexact Hp

end Cert.Proof.Lookup

end
-- ==== Proof.Task.lean ====
/-
  THE TASK: one trip of its loop takes the invariant at the trip to the invariant at the next (`trip`, out of the five
  parts of `Trip`), the loop is 25 trips, and before it the first block's fetch begins, after it the last block's
  write-out is awaited (`task`). The invariant at trip `n` says which blocks of the index array are back, which blocks of
  the output are written, and which copies are in flight.
-/
module

public import proofs.«01_k».proof.Proof.Trip

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S3200x64 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scoped0 : Memref Cert.KernelIdeal.sig Kind.scVector Space.vmem Cert.KernelIdeal.S2x4x64 EltTy.i32)
local notation "rV" => (Memref.whole Cert.KernelIdeal.cc0_scoped2 : Memref Cert.KernelIdeal.sig Kind.scVector Space.vmem Cert.KernelIdeal.S2x256x128 EltTy.f32)

/-! ## Blocks -/

theorem ico_head (Φ : ℕ → sProp 𝕄) (n : ℕ) :
    bigSep (Finset.Ico n 25) Φ ⊢ iprop((if n < 25 then Φ n else iprop(emp)) ∗ bigSep (Finset.Ico (n + 1) 25) Φ) := by
  by_cases h : n < 25
  · rw [if_pos h, show Finset.Ico n 25 = insert n (Finset.Ico (n + 1) 25) by
      ext x; simp only [Finset.mem_Ico, Finset.mem_insert]; omega, SparseCore.bigSep_insert' (by simp)]
  · rw [if_neg h, show Finset.Ico n 25 = Finset.Ico (n + 1) 25 by ext x; simp only [Finset.mem_Ico]; omega]
    iintro H
    isplitr
    · iempintro
    iexact H

theorem range_snoc (Φ : ℕ → sProp 𝕄) (n : ℕ) : iprop(Φ n ∗ bigSep (Finset.range n) Φ) ⊢ bigSep (Finset.range (n + 1)) Φ := by
  rw [Finset.range_add_one, SparseCore.bigSep_insert' (by simp)]

theorem pp_two (n : ℕ) : pp (n + 1 + 1) = pp n := Fin.ext (show (n + 1 + 1) % 2 = n % 2 by omega)

variable (d : Dev nD) (L : grid0.Coords)
variable (I : S3200x64.Idx → BitVec 32) (T : S100000x128.Idx → F .f32) (q : PosShare TreeShare) (o : S204800x128.Idx → F .f32)

/-- Block `n` of the task's share of the index array; of the output, before the task and after. -/
abbrev iP (n : ℕ) : sProp 𝕄 := iprop(iLoc d ↦[iBlk (bno L n)]{fullShare} I)
abbrev oI (n : ℕ) : sProp 𝕄 := iprop(oLoc d ↦[oBlk (bno L n)]{fullShare} o)
abbrev oP (n : ℕ) : sProp 𝕄 := iprop(oLoc d ↦[oBlk (bno L n)]{fullShare} outC I T)

theorem before_snoc (n : ℕ) :
    iprop(Before d L I T n ∗ bigSep (Finset.range (n - 1)) (oP d L I T)) ⊢ bigSep (Finset.range (n + 1 - 1)) (oP d L I T) := by
  unfold Before
  by_cases h : 0 < n
  · rw [if_pos h]
    obtain ⟨k, rfl⟩ : ∃ k, n = k + 1 := ⟨n - 1, by omega⟩
    exact range_snoc (oP d L I T) k
  · rw [if_neg h]
    obtain rfl : n = 0 := by omega
    iintro ⟨-, H⟩
    iexact H

/-- A row slot, whatever it holds, as its four quarters. -/
theorem rSlot_quarters (p : Fin 2) :
    iprop(∃ f, rLoc d L ↦[rSlot p]{fullShare} f : sProp 𝕄) ⊢ iprop((∃ f, rLoc d L ↦[rQtr p 0]{fullShare} f) ∗ (∃ f, rLoc d L ↦[rQtr p 1]{fullShare} f)
      ∗ (∃ f, rLoc d L ↦[rQtr p 2]{fullShare} f) ∗ (∃ f, rLoc d L ↦[rQtr p 3]{fullShare} f)) := by
  iintro ⟨%f, H⟩
  ihave H := (Entails.of_eq (rSlot_split d L p f)) $$ H
  icases H with ⟨H0, H1, H2, H3⟩
  isplitl [H0]; · iexists _; iexact H0
  isplitl [H1]; · iexists _; iexact H1
  isplitl [H2]; · iexists _; iexact H2
  iexists _; iexact H3

variable {O : CellTallies nD τ sig (HIx 1)} {W : Waits sig (HIx 1)}

variable (O W) in
/-- The invariant of the loop at trip `n`. -/
def Inv (n : ℕ) : sProp 𝕄 :=
  iprop(bigSep (Finset.range n) (iP d L I) ∗ bigSep (Finset.Ico (n + 1) 25) (iP d L I) ∗ InAt d L I n ∗ InFree d L (pp (n + 1))
    ∗ bigSep (Finset.range (n - 1)) (oP d L I T) ∗ bigSep (Finset.Ico n 25) (oI d L o) ∗ OutAt d L I T n ∗ OutFree d L (pp n)
    ∗ (semVal (thr d L, .dma (gS 0)) 0 ∗ semVal (thr d L, .dma (gS 1)) 0 ∗ semVal (thr d L, .dma (gS 2)) 0 ∗ semVal (thr d L, .dma (gS 3)) 0)
    ∗ (tLoc d ↦{q} T) ∗ Owing d L O W)

variable [FloatOps F]

/-- One trip. -/
theorem trip (hI : ∀ j, (I j).toNat < 100000) (t : Fin k0_t1_loop.trips) :
    iprop(Transfers.MayWaits (thr d L) (default : HIx 1) O ∗ Inv d L I T q o O W t.val)
      ⊢ wp frame (wpE (defs₀ (F := F)) 𝒱₀ (thr d L) none) Set.univ
          (k0_t1_body L tV (Memref.isWhole_whole _) iV (Memref.isWhole_whole _) oV (Memref.isWhole_whole _) cc0_scratch0
            sV (Memref.isWhole_whole _) cc0_scoped1 rV (Memref.isWhole_whole _) cc0_scoped3 (base L) t (st t.val))
          fun acc => iprop(⌜acc = st (t.val + 1)⌝ ∗ Inv d L I T q o O W (t.val + 1)) := by
  have ht := t_lt t
  unfold k0_t1_body
  simp only [wp_bind, wp_pure]
  rw [← next_st L t]
  have hIn : InAt (F := F) d L I t.val = FetchFl (F := F) d L I (pp t.val) (bno L t.val) := by unfold InAt; rw [if_pos ht]
  have hOut : OutAt d L I T (t.val + 1) = FlushFl d L I T (pp t.val) (bno L t.val) := by
    unfold OutAt; rw [if_pos (Nat.succ_pos _), pp_two]; rfl
  unfold Inv
  rw [hIn, hOut, pp_two]
  iintro ⟨#Hmw, Hid, Hir, Hfe, Hs', Hod, Hor, Hoa, ⟨Hr, Hvo⟩, ⟨Hg0, Hg1, Hg2, Hg3⟩, Ht, HO⟩
  ihave Hir := (ico_head (iP d L I) (t.val + 1)) $$ Hir
  icases Hir with ⟨Hi1, Hir⟩
  ihave Hor := (ico_head (oI d L o) t.val) $$ Hor
  icases Hor with ⟨Ho1, Hor⟩
  ihave Ho1 := (Entails.of_eq (if_pos ht)) $$ Ho1
  ihave Ht := (Entails.of_eq (tab_split d q T)) $$ Ht
  icases Ht with ⟨Ht0, Ht1, Ht2, Ht3⟩
  ihave Hr := (rSlot_quarters d L (pp t.val)) $$ Hr
  icases Hr with ⟨Hr0, Hr1, Hr2, Hr3⟩
  iapply (part1 d L I t) $$ [Hid Hir Hfe Hs' Hod Hor Hoa Hr0 Hr1 Hr2 Hr3 Hvo Hg0 Hg1 Hg2 Hg3 Ht0 Ht1 Ht2 Ht3 HO Hi1 Ho1]
  isplitl [Hi1]; · iexact Hi1
  isplitl [Hs']; · iexact Hs'
  iintro Hs'
  iapply (part2 (O := O) (W := W) d L I T q t hI) $$ [Hid Hir Hfe Hs' Hod Hor Hoa Hr0 Hr1 Hr2 Hr3 Hvo Hg0 Hg1 Hg2 Hg3 Ht0 Ht1 Ht2 Ht3 HO Ho1]
  isplitl [Hfe]; · iexact Hfe
  isplitr; · iexact Hmw
  isplitl [HO]; · iexact HO
  isplitl [Ht0]; · iexact Ht0
  isplitl [Hr0]; · iexact Hr0
  isplitl [Hg0]; · iexact Hg0
  iintro ⟨Hi, Hvi, HO, Hf0, Hs1, Hs2, Hs3⟩
  iapply (part3 d L I T q t hI) $$ [Hid Hir Hi Hvi Hf0 Hs1 Hs2 Hs3 Hs' Hod Hor Hoa Hr1 Hr2 Hr3 Hvo Hg1 Hg2 Hg3 Ht1 Ht2 Ht3 HO Ho1]
  isplitl [Ht1 Hr1 Hs1 Hg1]
  · isplitl [Ht1]; · iexact Ht1
    isplitl [Hr1]; · iexact Hr1
    isplitl [Hs1]; · iexact Hs1
    iexact Hg1
  isplitl [Ht2 Hr2 Hs2 Hg2]
  · isplitl [Ht2]; · iexact Ht2
    isplitl [Hr2]; · iexact Hr2
    isplitl [Hs2]; · iexact Hs2
    iexact Hg2
  isplitl [Ht3 Hr3 Hs3 Hg3]
  · isplitl [Ht3]; · iexact Ht3
    isplitl [Hr3]; · iexact Hr3
    isplitl [Hs3]; · iexact Hs3
    iexact Hg3
  iintro ⟨Hf1, Hf2, Hf3⟩
  iapply (part4 (O := O) (W := W) d L I T q t) $$ [Hid Hir Hi Hvi Hf0 Hf1 Hf2 Hf3 Hs' Hod Hor Hoa Hvo HO Ho1]
  isplitl [Hf0]; · iexact Hf0
  isplitl [Hf1]; · iexact Hf1
  isplitl [Hf2]; · iexact Hf2
  isplitr; · iexact Hmw
  isplitl [HO]; · iexact HO
  iintro ⟨⟨Hr0, Ht0, Hs0, Hg0⟩, ⟨Hr1, Ht1, Hs1, Hg1⟩, ⟨Hr2, Ht2, Hs2, Hg2⟩, HO⟩
  iapply (part5 (O := O) (W := W) d L I T q t _ _ _ o)
    $$ [Hid Hir Hi Hvi Hf3 Hr0 Ht0 Hs0 Hg0 Hr1 Ht1 Hs1 Hg1 Hr2 Ht2 Hs2 Hg2 Hs' Hod Hor Hoa Hvo HO Ho1]
  isplitl [Hf3]; · iexact Hf3
  isplitl [Hr0]; · iexact Hr0
  isplitl [Hr1]; · iexact Hr1
  isplitl [Hr2]; · iexact Hr2
  isplitr; · iexact Hmw
  isplitl [HO]; · iexact HO
  isplitl [Ho1]; · iexact Ho1
  isplitl [Hvo]; · iexact Hvo
  isplitl [Hoa]; · iexact Hoa
  iintro ⟨⟨Ht3, Hs3, Hg3⟩, HO, Hfl, Hbef, Hof⟩
  imodintro
  isplitr; · ipureintro; rfl
  isplitl [Hi Hid]
  · iapply (range_snoc (iP d L I) t.val) $$ [Hi Hid]
    isplitl [Hi]; · iexact Hi
    iexact Hid
  isplitl [Hir]; · iexact Hir
  isplitl [Hs']; · iexact Hs'
  isplitl [Hs0 Hs1 Hs2 Hs3 Hvi]
  · isplitl [Hs0 Hs1 Hs2 Hs3]
    · iexists (idxC I (bno L t.val))
      iapply (Entails.of_eq (sSlot_split d L (pp t.val) _).symm) $$ [Hs0 Hs1 Hs2 Hs3]
      isplitl [Hs0]; · iexact Hs0
      isplitl [Hs1]; · iexact Hs1
      isplitl [Hs2]; · iexact Hs2
      iexact Hs3
    iexact Hvi
  isplitl [Hbef Hod]
  · iapply (before_snoc d L I T t.val) $$ [Hbef Hod]
    isplitl [Hbef]; · iexact Hbef
    iexact Hod
  isplitl [Hor]; · iexact Hor
  isplitl [Hfl]; · iexact Hfl
  isplitl [Hof]; · iexact Hof
  isplitl [Hg0 Hg1 Hg2 Hg3]
  · isplitl [Hg0]; · iexact Hg0
    isplitl [Hg1]; · iexact Hg1
    isplitl [Hg2]; · iexact Hg2
    iexact Hg3
  isplitl [Ht0 Ht1 Ht2 Ht3]
  · iapply (Entails.of_eq (tab_split d q T).symm) $$ [Ht0 Ht1 Ht2 Ht3]
    isplitl [Ht0]; · iexact Ht0
    isplitl [Ht1]; · iexact Ht1
    isplitl [Ht2]; · iexact Ht2
    iexact Ht3
  iexact HO

/-- The first block's fetch begins. -/
theorem part6 {Q : BitVec 32 → sProp 𝕄} :
    iprop(iP d L I 0 ∗ InFree d L (pp 0) ∗ (InAt d L I 0 -∗ Q (base L)))
      ⊢ wp frame (wpE (defs₀ (F := F)) 𝒱₀ (thr d L) none) Set.univ
          (k0_part6 L tV (Memref.isWhole_whole _) iV (Memref.isWhole_whole _) oV (Memref.isWhole_whole _) cc0_scratch0
            sV (Memref.isWhole_whole _) cc0_scoped1 rV (Memref.isWhole_whole _) cc0_scoped3) Q := by
  rw [k0_part6_eq_skeleton]
  unfold k0_part6_skel
  simp only [wp_bind, wp_pure]
  unfold InAt
  rw [if_pos (by decide)]
  iintro ⟨Hi, ⟨Hs, Hv⟩, HQ⟩
  iapply (fetch_step d L I (bno_lt L (by decide)) (p := pp 0) k0_off1_eq (off2_eq L) (sem_in k0_off3_eq)) $$ [Hi Hs Hv HQ]
  isplitl [Hi]; · iexact Hi
  isplitl [Hs]; · iexact Hs
  isplitl [Hv]; · iexact Hv
  iintro Hf
  imodintro
  iapply HQ $$ Hf

/-- The loop, from the invariant at trip 0 to the invariant at trip 25. -/
theorem part7 (hI : ∀ j, (I j).toNat < 100000) {Q : _ → sProp 𝕄} :
    iprop(Transfers.MayWaits (thr d L) (default : HIx 1) O ∗ Inv d L I T q o O W 0
        ∗ (Inv d L I T q o O W 25 -∗ Q ⟨a10 25, a11 25, chk5 L, chk4⟩))
      ⊢ wp frame (wpE (defs₀ (F := F)) 𝒱₀ (thr d L) none) Set.univ
          (k0_part7 L tV (Memref.isWhole_whole _) iV (Memref.isWhole_whole _) oV (Memref.isWhole_whole _) cc0_scratch0
            sV (Memref.isWhole_whole _) cc0_scoped1 rV (Memref.isWhole_whole _) cc0_scoped3 (base L)) Q := by
  rw [k0_part7_eq_skeleton]
  unfold k0_part7_skel
  simp only [wp_bind, wp_pure]
  iintro ⟨#Hmw, Hinv, HQ⟩
  iapply (Scf.wp_for frame (wpE (defs₀ (F := F)) 𝒱₀ (thr d L) none) Set.univ _ _ _ k0_t1_ok _ _
    (fun n acc => iprop(⌜acc = st n⌝ ∗ Transfers.MayWaits (thr d L) (default : HIx 1) O ∗ Inv d L I T q o O W n)) (fun t acc => ?_)) $$ [Hinv HQ]
  · iintro ⟨%e, #Hmw, Hinv⟩
    subst e
    iapply (wp_wand_r frame (wpE (defs₀ (F := F)) 𝒱₀ (thr d L) none) Set.univ) $$ [Hinv]
    isplitl [Hinv]
    · iapply (trip (O := O) (W := W) d L I T q o hI t) $$ [Hinv]
      isplitr; · iexact Hmw
      iexact Hinv
    · iintro %acc ⟨%e, Hinv⟩
      isplitr; · ipureintro; exact e
      isplitr; · iexact Hmw
      iexact Hinv
  isplitl [Hinv]
  · isplitr; · ipureintro; rfl
    isplitr; · iexact Hmw
    iexact Hinv
  iintro %acc ⟨%e, -, Hinv⟩
  ihave Hinv := (Entails.of_eq (congrArg (Inv d L I T q o O W) trips_eq)) $$ Hinv
  have e := e.trans (congrArg st trips_eq)
  subst e
  iapply (assume_step d L (chk5 L)) $$ [Hinv HQ]
  iapply (assume_step d L chk4) $$ [Hinv HQ]
  imodintro
  iapply HQ $$ Hinv

variable (O W) in
/-- What the task needs besides its blocks and its share of the table: its slots and semaphores, free. -/
def Free : sProp 𝕄 :=
  iprop(InFree d L (pp 0) ∗ InFree d L (pp 1) ∗ OutFree d L (pp 0) ∗ OutFree d L (pp 1)
    ∗ (semVal (thr d L, .dma (gS 0)) 0 ∗ semVal (thr d L, .dma (gS 1)) 0 ∗ semVal (thr d L, .dma (gS 2)) 0 ∗ semVal (thr d L, .dma (gS 3)) 0)
    ∗ Owing d L O W)

/-- The task: from its 25 blocks of the index array, its share of the table and its 25 blocks of the output, to the same
    with the output's blocks written. -/
theorem task (hI : ∀ j, (I j).toNat < 100000) :
    iprop(Transfers.MayWaits (thr d L) (default : HIx 1) O ∗ (bigSep (Finset.range 25) (iP d L I) ∗ (tLoc d ↦{q} T) ∗ bigSep (Finset.range 25) (oI d L o))
        ∗ Free d L O W)
      ⊢ wp frame (wpE (defs₀ (F := F)) 𝒱₀ (thr d L) none) Set.univ
          (cc0_gather_kernel L tV (Memref.isWhole_whole _) iV (Memref.isWhole_whole _) oV (Memref.isWhole_whole _) cc0_scratch0
            sV (Memref.isWhole_whole _) cc0_scoped1 rV (Memref.isWhole_whole _) cc0_scoped3)
          fun _ => iprop((bigSep (Finset.range 25) (iP d L I) ∗ (tLoc d ↦{q} T) ∗ bigSep (Finset.range 25) (oP d L I T)) ∗ Free d L O W) := by
  rw [cc0_gather_kernel_eq_skeleton]
  unfold cc0_gather_kernel_skel
  simp only [wp_bind, wp_pure]
  unfold Free
  iintro ⟨#Hmw, ⟨Hi, Ht, Ho⟩, Hs0, Hs1, Hr0, Hr1, Hg, HO⟩
  ihave Hi := (Entails.of_eq (congrArg (fun s => bigSep s (iP (F := F) d L I)) (Finset.range_eq_Ico 25))) $$ Hi
  ihave Ho := (Entails.of_eq (congrArg (fun s => bigSep s (oI d L o)) (Finset.range_eq_Ico 25))) $$ Ho
  ihave Hi := (ico_head (iP d L I) 0) $$ Hi
  icases Hi with ⟨Hi0, Hi⟩
  iapply (part6 d L I) $$ [Hi0 Hi Ht Ho Hs0 Hs1 Hr0 Hr1 Hg HO]
  isplitl [Hi0]; · iapply (Entails.of_eq (if_pos (by decide : 0 < 25))) $$ Hi0
  isplitl [Hs0]; · iexact Hs0
  iintro Hf
  iapply (part7 (O := O) (W := W) d L I T q o hI) $$ [Hf Hi Ht Ho Hs1 Hr0 Hr1 Hg HO]
  isplitr; · iexact Hmw
  isplitl
  · unfold Inv
    rw [Finset.range_zero, bigSep_empty, bigSep_empty]
    isplitr; · iempintro
    isplitl [Hi]; · iexact Hi
    isplitl [Hf]; · iexact Hf
    isplitl [Hs1]; · iexact Hs1
    isplitr; · iempintro
    isplitl [Ho]; · iexact Ho
    isplitl [Hr1]; · iapply (Entails.of_eq (show OutFree (F := F) d L (pp 1) = OutAt d L I T 0 from (if_neg (by decide)).symm)) $$ Hr1
    isplitl [Hr0]; · iexact Hr0
    isplitl [Hg]; · iexact Hg
    isplitl [Ht]; · iexact Ht
    iexact HO
  iintro Hinv
  unfold Inv
  icases Hinv with ⟨Hi, -, Hs1, Hs0, Ho, -, Hf, Hr1, Hg, Ht, HO⟩
  ihave Hs1 := (Entails.of_eq (show InAt (F := F) d L I 25 = InFree d L (pp 1) from if_neg (by decide))) $$ Hs1
  ihave Hf := (Entails.of_eq (show OutAt d L I T 25 = Transfers.Flight countersEmb (thr d L) (.dma (outS (pp 0))) (default : HIx 1) NOut
    iprop((oLoc d ↦[oBlk (bno L 24)]{fullShare} outC I T) ∗ (rLoc d L ↦[rSlot (pp 0)]{fullShare} rowC I T (bno L 24))) from if_pos (by decide))) $$ Hf
  iapply (wait_step d L (sem_out (p := pp 0) off20_eq) rfl) $$ [Hi Hs1 Hs0 Ho Hf Hr1 Hg Ht HO]
  isplitl [Hf]; · iexact Hf
  isplitr; · iexact Hmw
  isplitl [HO]; · iexact HO
  iintro ⟨⟨Ho1, Hr0⟩, Hv0, HO⟩
  imodintro
  isplitl [Hi Ht Ho Ho1]
  · isplitl [Hi]; · iexact Hi
    isplitl [Ht]; · iexact Ht
    iapply (range_snoc (oP d L I T) 24) $$ [Ho Ho1]
    isplitl [Ho1]; · iexact Ho1
    iexact Ho
  isplitl [Hs0]; · iexact Hs0
  isplitl [Hs1]; · iexact Hs1
  isplitl [Hr0 Hv0]
  · isplitl [Hr0]
    · iexists _; iexact Hr0
    iexact Hv0
  isplitl [Hr1]; · iexact Hr1
  isplitl [Hg]; · iexact Hg
  iexact HO

end Cert.Proof.Lookup

end
-- ==== Proof.Tile.lean ====
/-
  THE TASK AS THE LAUNCH STARTS IT: a vector subcore's own buffers and semaphores hold the two scratches, of two slots
  each, and the eight semaphores the kernel uses; taken out of them they are what `task` runs on, and put back they are
  the subcore's own again (`tile_body`). The launch's obligation for the tasks follows (`tileObl`).
-/
module

public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S3200x64 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scoped0 : Memref Cert.KernelIdeal.sig Kind.scVector Space.vmem Cert.KernelIdeal.S2x4x64 EltTy.i32)
local notation "rV" => (Memref.whole Cert.KernelIdeal.cc0_scoped2 : Memref Cert.KernelIdeal.sig Kind.scVector Space.vmem Cert.KernelIdeal.S2x256x128 EltTy.f32)

/-! ## The two slots of each scratch -/

section Slots
variable {ℓ : Loc nD τ sig} (S : ℕ → Finset (Idx ℓ)) (hd : Disjoint (S 0) (S 1)) (hc : S 0 ∪ S 1 = Finset.univ)
include hd hc

/-- A buffer of two slots is its slots. -/
theorem slots_split : iprop(∃ f, ℓ ↦{fullShare} f) ⊢ (iprop((∃ f, ℓ ↦[S 0]{fullShare} f) ∗ (∃ f, ℓ ↦[S 1]{fullShare} f)) : sProp 𝕄) := by
  iintro ⟨%f, H⟩
  ihave H := (Entails.of_eq (show (ℓ ↦{fullShare} f : sProp 𝕄) = ℓ ↦[S 0 ∪ S 1]{fullShare} f by rw [hc])) $$ H
  ihave H := (pointsTo_union (q := fullShare) (f := f) hd).1 $$ H
  icases H with ⟨H0, H1⟩
  isplitl [H0] <;> iexists _ <;> iassumption

/-- Its slots, whatever they hold, are the buffer. -/
theorem slots_join : (iprop((∃ f, ℓ ↦[S 0]{fullShare} f) ∗ (∃ f, ℓ ↦[S 1]{fullShare} f)) : sProp 𝕄) ⊢ iprop(∃ f, ℓ ↦{fullShare} f) := by
  iintro ⟨⟨%f, H0⟩, ⟨%g, H1⟩⟩
  ihave H := (pointsTo_join (q := fullShare) (f := f) (g := g) hd) $$ [H0 H1]
  · isplitl [H0] <;> iassumption
  iexists ((S 1).piecewise g f)
  iapply (Entails.of_eq (show (ℓ ↦[S 0 ∪ S 1]{fullShare} ((S 1).piecewise g f) : sProp 𝕄) = ℓ ↦{fullShare} ((S 1).piecewise g f) by rw [hc])) $$ H
end Slots

theorem sSlot_disjoint : Disjoint (sSlot 0) (sSlot 1) := Finset.disjoint_left.mpr fun x h0 h1 => by
  simp only [sSlot, Finset.mem_filter] at h0 h1; omega
theorem sSlot_cover : sSlot 0 ∪ sSlot 1 = Finset.univ := by
  ext x
  have h : (x 0).val < 2 := (x 0).isLt
  simp only [sSlot, Finset.mem_union, Finset.mem_filter, Finset.mem_univ, true_and, iff_true]; omega
theorem rSlot_disjoint : Disjoint (rSlot 0) (rSlot 1) := Finset.disjoint_left.mpr fun x h0 h1 => by
  simp only [rSlot, Finset.mem_filter] at h0 h1; omega
theorem rSlot_cover : rSlot 0 ∪ rSlot 1 = Finset.univ := by
  ext x
  have h : (x 0).val < 2 := (x 0).isLt
  simp only [rSlot, Finset.mem_union, Finset.mem_filter, Finset.mem_univ, true_and, iff_true]; omega

/-! ## A vector subcore's own buffers and semaphores -/

variable (d : Dev nD) (L : grid0.Coords)

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The cells of the subcore's eight DMA semaphores. -/
def dmaCells : Finset (GSem nD τ sig) := Finset.univ.image fun s : Fin 8 => ((thr d L, .dma s) : GSem nD τ sig)

theorem dmaCells_sub : dmaCells d L ⊆ ownCells (thr d L) := by
  intro g hg
  obtain ⟨s, -, rfl⟩ := Finset.mem_image.mp hg
  refine mem_ownCells.mpr ⟨rfl, ?_⟩
  show (SemLoc.dma s : SemLoc sig).isScoped .scVector = true
  clear hg; revert s; decide

theorem gS_eq : gS 0 = (0 : Fin 8) ∧ gS 1 = (1 : Fin 8) ∧ gS 2 = (2 : Fin 8) ∧ gS 3 = (3 : Fin 8) := by decide
theorem inS_eq : inS 0 = (4 : Fin 8) ∧ inS 1 = (5 : Fin 8) := by decide
theorem outS_eq : outS 0 = (6 : Fin 8) ∧ outS 1 = (7 : Fin 8) := by decide

/-- The subcore's own semaphores at zero: the gathers' four, the index slots' two, the row slots' two, and the rest. -/
theorem ownSems0_V : (ownSems0 (thr d L) : sProp 𝕄)
    = iprop((semVal (thr d L, .dma (gS 0)) 0 ∗ semVal (thr d L, .dma (gS 1)) 0 ∗ semVal (thr d L, .dma (gS 2)) 0 ∗ semVal (thr d L, .dma (gS 3)) 0
          ∗ semVal (thr d L, .dma (inS 0)) 0 ∗ semVal (thr d L, .dma (inS 1)) 0 ∗ semVal (thr d L, .dma (outS 0)) 0 ∗ semVal (thr d L, .dma (outS 1)) 0)
        ∗ bigSep (ownCells (thr d L) \ dmaCells d L) fun g => semVal g 0) := by
  have e : (bigSep (dmaCells d L) (fun g => semVal g 0) : sProp 𝕄) = bigSep Finset.univ fun s : Fin 8 => semVal ((thr d L, .dma s) : GSem nD τ sig) 0 :=
    SparseCore.bigSep_image_of_injOn (fun a _ b _ e => SemLoc.dma.inj (Prod.mk.inj e).2) _
  refine (SparseCore.bigSep_sdiff_split' (dmaCells_sub d L)).trans ?_
  rw [e, bigSep_eight, gS_eq.1, gS_eq.2.1, gS_eq.2.2.1, gS_eq.2.2.2, inS_eq.1, inS_eq.2, outS_eq.1, outS_eq.2]

/-- The subcore's own buffers, at some contents: the index scratch, the row scratch, and the rest. -/
theorem ownBufs_V : (ownBufs (thr d L) : sProp 𝕄)
    = iprop((∃ f, sLoc d L ↦{fullShare} f) ∗ (∃ f, rLoc d L ↦{fullShare} f)
        ∗ bigSep (((ownRefs (τ := τ) (.scVector (cV L) (jV L))).erase ((Proc.scVector (cV L) (jV L)).devRef cc0_scoped0)).erase
            ((Proc.scVector (cV L) (jV L)).devRef cc0_scoped2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

variable (I : S3200x64.Idx → BitVec 32) (T : S100000x128.Idx → F .f32) (q : PosShare TreeShare) (o : S204800x128.Idx → F .f32)
variable [FloatOps F]

/-- What a task takes: its 25 blocks of the index array, its share of the table, its 25 blocks of the output. -/
abbrev Take : sProp 𝕄 := iprop(bigSep (Finset.range 25) (iP d L I) ∗ (tLoc d ↦{q} T) ∗ bigSep (Finset.range 25) (oI d L o))
/-- What a task gives back: the same, its blocks of the output written. -/
abbrev Give : sProp 𝕄 := iprop(bigSep (Finset.range 25) (iP d L I) ∗ (tLoc d ↦{q} T) ∗ bigSep (Finset.range 25) (oP d L I T))

/-- The task, from what the launch hands it to what the launch takes back. -/
theorem tile_body (hF : (K (F := F)).Facts) (hI : ∀ j, (I j).toNat < 100000) (O : CellTallies nD τ sig (HIx 1)) (W : Waits sig (HIx 1))
    (hO : ∀ g, O g none = 0) :
    iprop(levAts (K (F := F)).L (K (F := F)).lev ∗ emp ∗ Take d L I T q o
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _) cc0_scratch0
            sV (Memref.isWhole_whole _) cc0_scoped1 rV (Memref.isWhole_whole _) cc0_scoped3)
          fun _ => iprop(Give d L I T q
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, Htake, ⟨Hs, Hr, Hbufs⟩, ⟨⟨Hg0, Hg1, Hg2, Hg3, Hi0, Hi1, Ho0, Ho1⟩, Hsems⟩, HO⟩
  ihave #Hmw := (show levAts (K (F := F)).L (K (F := F)).lev ⊢ Transfers.MayWaits (thr d L) (default : HIx 1) O from
    (K (F := F)).mayWaits_none (thr := thr d L) hO) $$ Hlv
  ihave Hs := (slots_split (F := F) (ℓ := sLoc d L) sSlot sSlot_disjoint sSlot_cover) $$ Hs
  icases Hs with ⟨Hs0, Hs1⟩
  ihave Hr := (slots_split (F := F) (ℓ := rLoc d L) rSlot rSlot_disjoint rSlot_cover) $$ Hr
  icases Hr with ⟨Hr0, Hr1⟩
  iapply (wp_wand_r frame (wpE (defs₀ (F := F)) 𝒱₀ (thr d L) none) Set.univ) $$ [Htake Hs0 Hs1 Hr0 Hr1 Hbufs Hg0 Hg1 Hg2 Hg3 Hi0 Hi1 Ho0 Ho1 Hsems HO]
  isplitl [Htake Hs0 Hs1 Hr0 Hr1 Hg0 Hg1 Hg2 Hg3 Hi0 Hi1 Ho0 Ho1 HO]
  · iapply (task (O := O) (W := W) d L I T q o hI) $$ [Htake Hs0 Hs1 Hr0 Hr1 Hg0 Hg1 Hg2 Hg3 Hi0 Hi1 Ho0 Ho1 HO]
    isplitr; · iexact Hmw
    isplitl [Htake]; · iexact Htake
    unfold Free
    isplitl [Hs0 Hi0]; · isplitl [Hs0]; · iexact Hs0
                         iexact Hi0
    isplitl [Hs1 Hi1]; · isplitl [Hs1]; · iexact Hs1
                         iexact Hi1
    isplitl [Hr0 Ho0]; · isplitl [Hr0]; · iexact Hr0
                         iexact Ho0
    isplitl [Hr1 Ho1]; · isplitl [Hr1]; · iexact Hr1
                         iexact Ho1
    isplitl [Hg0 Hg1 Hg2 Hg3]
    · isplitl [Hg0]; · iexact Hg0
      isplitl [Hg1]; · iexact Hg1
      isplitl [Hg2]; · iexact Hg2
      iexact Hg3
    iexists W
    isplitr; · ipureintro; exact fun p hp => .inl hp
    iexact HO
  iintro %_ ⟨Hgive, Hfree⟩
  unfold Free
  icases Hfree with ⟨⟨Hs0, Hi0⟩, ⟨Hs1, Hi1⟩, ⟨Hr0, Ho0⟩, ⟨Hr1, Ho1⟩, ⟨Hg0, Hg1, Hg2, Hg3⟩, HO⟩
  isplitl [Hgive]; · iexact Hgive
  isplitl [Hs0 Hs1 Hr0 Hr1 Hbufs]
  · isplitl [Hs0 Hs1]
    · iapply (slots_join (F := F) (ℓ := sLoc d L) sSlot sSlot_disjoint sSlot_cover) $$ [Hs0 Hs1]
      isplitl [Hs0]; · iexact Hs0
      iexact Hs1
    isplitl [Hr0 Hr1]
    · iapply (slots_join (F := F) (ℓ := rLoc d L) rSlot rSlot_disjoint rSlot_cover) $$ [Hr0 Hr1]
      isplitl [Hr0]; · iexact Hr0
      iexact Hr1
    iexact Hbufs
  isplitr [HO]
  · isplitr [Hsems]
    · isplitl [Hg0]; · iexact Hg0
      isplitl [Hg1]; · iexact Hg1
      isplitl [Hg2]; · iexact Hg2
      isplitl [Hg3]; · iexact Hg3
      isplitl [Hi0]; · iexact Hi0
      isplitl [Hi1]; · iexact Hi1
      isplitl [Ho0]; · iexact Ho0
      iexact Ho1
    iexact Hsems
  iexact HO

end Cert.Proof.Lookup

end
-- ==== Proof.Launch.lean ====
/-
  THE LAUNCH. The call hands each task its 25 blocks of the index array and of the output and a share of the table, and
  takes them back with the output's blocks written: the arrays whole are the blocks of all 32 tasks (`all_takes`,
  `all_gives`). Around the call @main transposes and reshapes the indices, and reshapes and transposes the output. So the
  program, from any memory whose indices are below 100000, ends with its arguments unchanged, every semaphore at zero,
  and its result the one `result` says (`run_main`) — for any float values.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S100000x128 EltTy.f32)
local notation "iV" => (Memref.whole Cert.KernelIdeal.main_v1_scv : Memref Cert.KernelIdeal.sig Kind.scVector Space.hbm Cert.KernelIdeal.S3200x64 EltTy.i32)
local notation "oV" => (Memref.whole Cert.KernelIdeal.main_v2_scv : Memref Cert.KernelIdeal.sig Kind.scVector Space.hbm Cert.KernelIdeal.S204800x128 EltTy.f32)
local notation "sV" => (Memref.whole Cert.KernelIdeal.cc0_scoped0 : Memref Cert.KernelIdeal.sig Kind.scVector Space.vmem Cert.KernelIdeal.S2x4x64 EltTy.i32)
local notation "rV" => (Memref.whole Cert.KernelIdeal.cc0_scoped2 : Memref Cert.KernelIdeal.sig Kind.scVector Space.vmem Cert.KernelIdeal.S2x256x128 EltTy.f32)

variable (m : (ℓ : Loc nD τ sig) → Buf (Elt F) ℓ) (ρ : Dev nD → PrngReg)

/-! ## The arrays are the tasks' blocks -/

def coordsV (c : Fin (grid0.bound 0)) (s : Fin (grid0.bound 1)) : grid0.Coords :=
  fun | 0 => c | 1 => s | ⟨_ + 2, h⟩ => absurd h (Nat.not_lt.2 (Nat.le_add_left _ _))

section Split
variable {ℓ : Loc nD τ sig} {q : PosShare TreeShare} {f : Buf (Elt F) ℓ}

/-- The elements whose key is `B` when divided by `k * n` are those whose key is one of `n * B … n * B + n - 1` when
    divided by `k`. -/
theorem pts_digits (g : Idx ℓ → ℕ) {α : Type} (S : Finset α) (v : α → ℕ) {k n : ℕ} (h0 : 0 < n) (B : ℕ)
    (hv : ∀ a ∈ S, ∀ b ∈ S, v a = v b → a = b) (hn : ∀ a ∈ S, v a < n) (hs : ∀ j < n, ∃ a ∈ S, v a = j) :
    (ℓ ↦[Finset.univ.filter fun x => g x / (k * n) = B]{q} f : sProp 𝕄)
      = bigSep S fun a => ℓ ↦[Finset.univ.filter fun x => g x / k = n * B + v a]{q} f := by
  have hd : ∀ a ∈ S, ∀ b ∈ S, a ≠ b → Disjoint (Finset.univ.filter fun x => g x / k = n * B + v a) (Finset.univ.filter fun x => g x / k = n * B + v b) := by
    intro a ha b hb h
    refine Finset.disjoint_left.mpr fun x h0 h1 => h (hv a ha b hb ?_)
    simp only [Finset.mem_filter] at h0 h1
    omega
  rw [← pointsTo_biUnion S (ℓ := ℓ) (fun a => Finset.univ.filter fun x => g x / k = n * B + v a) hd]
  congr 1
  ext x
  simp only [Finset.mem_biUnion, Finset.mem_filter, Finset.mem_univ, true_and, ← Nat.div_div_eq_div_mul]
  constructor
  · intro h
    obtain ⟨a, ha, e⟩ := hs (g x / k % n) (Nat.mod_lt _ h0)
    exact ⟨a, ha, by rw [e, ← h, Nat.div_add_mod]⟩
  · rintro ⟨a, ha, e⟩
    have h := hn a ha
    rw [e, Nat.mul_add_div (by omega), Nat.div_eq_of_lt h, Nat.add_zero]

/-- A buffer of 800 blocks is the blocks of the 32 tasks. -/
theorem pts_blocks (g : Idx ℓ → ℕ) (k : ℕ) (hg : ∀ x, g x < k * 25 * 16 * 2) :
    (ℓ ↦{q} f : sProp 𝕄) = bigSep Finset.univ fun c : Fin 2 => bigSep Finset.univ fun i : Fin 16 => bigSep (Finset.range 25) fun n =>
      ℓ ↦[Finset.univ.filter fun x => g x / k = bno (coordsV c i) n]{q} f := by
  have e : (Finset.univ : Finset (Idx ℓ)) = Finset.univ.filter fun x => g x / (k * 25 * 16 * 2) = 0 := by
    ext x
    simp only [Finset.mem_filter, Finset.mem_univ, true_and, true_iff]
    exact Nat.div_eq_of_lt (hg x)
  conv_lhs => rw [e]
  refine (pts_digits g Finset.univ (fun c : Fin 2 => c.val) (by decide) 0 (fun _ _ _ _ h => Fin.ext h) (fun c _ => c.isLt) (fun j h => ⟨⟨j, h⟩, Finset.mem_univ _, rfl⟩)).trans
    (bigSep_congr fun c _ => ?_)
  refine (pts_digits g Finset.univ (fun i : Fin 16 => i.val) (by decide) _ (fun _ _ _ _ h => Fin.ext h) (fun i _ => i.isLt) (fun j h => ⟨⟨j, h⟩, Finset.mem_univ _, rfl⟩)).trans
    (bigSep_congr fun i _ => ?_)
  refine (pts_digits g (Finset.range 25) (fun n => n) (by decide) _ (fun _ _ _ _ h => h) (fun n h => Finset.mem_range.mp h) (fun j h => ⟨j, Finset.mem_range.mpr h, rfl⟩)).trans
    (bigSep_congr fun n _ => ?_)
  rw [show 25 * (16 * (2 * 0 + c.val) + i.val) + n = bno (coordsV c i) n from
    show 25 * (16 * (2 * 0 + c.val) + i.val) + n = 25 * (i.val + 16 * c.val) + n by omega]
end Split

/-- Task `L`'s share of the table. -/
def tsh (L : grid0.Coords) : PosShare TreeShare :=
  Idealize.ShloMosaic.pieceOf (Idealize.ShloMosaic.pieceOf fullShare 2 (by decide) (L 0)) 16 (by decide) (L 1)

theorem pts_shares (d : Dev nD) (T : S100000x128.Idx → F .f32) :
    (tLoc d ↦{fullShare} T : sProp 𝕄) = bigSep Finset.univ fun c : Fin 2 => bigSep Finset.univ fun i : Fin 16 => tLoc d ↦{tsh (coordsV c i)} T := by
  refine (Idealize.ShloMosaic.pointsTo_piecesOf (nD := nD) (τ := τ) (sig := sig) (Ix := HIx 1) (Val := Elt F) (Name := ℕ) (U := UU) (Lvl := ℕ)
    (ℓ := tLoc d) Finset.univ T (o := 2) (by decide) fullShare).trans (bigSep_congr fun c _ => ?_)
  exact Idealize.ShloMosaic.pointsTo_piecesOf (nD := nD) (τ := τ) (sig := sig) (Ix := HIx 1) (Val := Elt F) (Name := ℕ) (U := UU) (Lvl := ℕ)
    (ℓ := tLoc d) Finset.univ T (o := 16) (by decide) _

section All
variable (d : Dev nD) (I : S3200x64.Idx → BitVec 32) (T : S100000x128.Idx → F .f32) (o : S204800x128.Idx → F .f32)

theorem pts_iBlks : (iLoc d ↦{fullShare} I : sProp 𝕄)
    = bigSep Finset.univ fun c : Fin 2 => bigSep Finset.univ fun i : Fin 16 => bigSep (Finset.range 25) (iP d (coordsV c i) I) :=
  pts_blocks (ℓ := iLoc d) (fun x : S3200x64.Idx => (x 0).val) 4 fun x => by
    have h : (x 0).val < 3200 := (x 0).isLt
    omega

theorem pts_oBlks : (oLoc d ↦{fullShare} o : sProp 𝕄)
    = bigSep Finset.univ fun c : Fin 2 => bigSep Finset.univ fun i : Fin 16 => bigSep (Finset.range 25) (oI d (coordsV c i) o) :=
  pts_blocks (ℓ := oLoc d) (fun x : S204800x128.Idx => (x 0).val) 256 fun x => by
    have h : (x 0).val < 204800 := (x 0).isLt
    omega

variable [FloatOps F]

/-- What all the tasks take is the three arrays. -/
theorem all_takes : (bigSep Finset.univ fun c : Fin 2 => bigSep Finset.univ fun i : Fin 16 => Take d (coordsV c i) I T (tsh (coordsV c i)) o : sProp 𝕄)
    = iprop((iLoc d ↦{fullShare} I) ∗ (tLoc d ↦{fullShare} T) ∗ oLoc d ↦{fullShare} o) := by
  rw [pts_iBlks, pts_oBlks, pts_shares]
  simp only [bigSep_sep']

/-- What all the tasks give back is the three arrays, the output written. -/
theorem all_gives : (bigSep Finset.univ fun c : Fin 2 => bigSep Finset.univ fun i : Fin 16 => Give d (coordsV c i) I T (tsh (coordsV c i)) : sProp 𝕄)
    = iprop((iLoc d ↦{fullShare} I) ∗ (tLoc d ↦{fullShare} T) ∗ oLoc d ↦{fullShare} outC I T) :=
  all_takes d I T (outC I T)
end All

/-! ## The contents -/

/-- The index array the kernel is given: the indices transposed, in rows of 64. -/
def idx (d : Dev nD) : S3200x64.Idx → BitVec 32 :=
  shapeCast S3200x64 (transpose S50x4096 [1, 0] (m (xLoc d) : S4096x50.Idx → BitVec 32) transposes_S4096x50_S50x4096_1_0) shapeCasts_S50x4096_S3200x64

/-- What the proof asks of the launch memory: every index is below 100000. -/
def PreOK : Prop := ∀ (d : Dev nD) (j : S4096x50.Idx), (m (xLoc d) j : BitVec 32).toNat < 100000

theorem idx_lt (hpre : PreOK m) (d : Dev nD) (j : S3200x64.Idx) : (idx m d j).toNat < 100000 := hpre d _

/-- What the kernel leaves in its output. -/
abbrev rows (d : Dev nD) : S204800x128.Idx → F .f32 := outC (idx m d) (m (tLoc d))

/-- What the program leaves in its result: the kernel's rows, by position and batch, transposed. -/
def result (d : Dev nD) : S4096x50x128.Idx → F .f32 :=
  transpose S4096x50x128 [1, 0, 2] (shapeCast S50x4096x128 (rows m d) shapeCasts_S204800x128_S50x4096x128) transposes_S50x4096x128_S4096x50x128_1_0_2

variable [FloatOps F]

/-! ## What the handshakes carry -/

theorem nSub_zero : (K (F := F)).nSub 0 = 16 := rfl
theorem nCore_zero : (K (F := F)).nCore 0 = 2 := rfl

abbrev TakeAt (d : Dev nD) (c : Fin 2) (i : Fin 16) : sProp 𝕄 := Take d (coordsV c i) (idx m d) (m (tLoc d)) (tsh (coordsV c i)) (m (oLoc d))
abbrev GiveAt (d : Dev nD) (c : Fin 2) (i : Fin 16) : sProp 𝕄 := Give d (coordsV c i) (idx m d) (m (tLoc d)) (tsh (coordsV c i))

/-- The call gives each SparseCore what its sixteen tasks take, and each task its part. -/
def P : (K (F := F)).Pay (nD := nD) (Val := Elt F) (Name := ℕ) (U := UU) where
  st := fun q d c => match q with | 0 => bigSep Finset.univ fun i : Fin 16 => TakeAt m d (Fin.cast nCore_zero c) i
  dn := fun q d c => match q with | 0 => bigSep Finset.univ fun i : Fin 16 => GiveAt m d (Fin.cast nCore_zero c) i
  go := fun q d c i => match q with | 0 => TakeAt m d (Fin.cast nCore_zero c) (Fin.cast nSub_zero i)
  td := fun q d c i => match q with | 0 => GiveAt m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => TakeAt m d (Fin.cast nCore_zero c) i))
  dn q d c := match q with
    | 0 => (inferInstance : BI.Storable (upEmb : UEmb _ 𝕄) (bigSep Finset.univ fun i : Fin 16 => GiveAt m d (Fin.cast nCore_zero c) i))
  go q d c i := match q with
    | 0 => (inferInstance : BI.Storable (upEmb : UEmb _ 𝕄) (TakeAt m d (Fin.cast nCore_zero c) (Fin.cast nSub_zero i)))
  td q d c i := match q with
    | 0 => (inferInstance : BI.Storable (upEmb : UEmb _ 𝕄) (GiveAt m d (Fin.cast nCore_zero c) (Fin.cast nSub_zero i)))

/-! ## The launch's obligations -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _) cc0_scratch0
            sV (Memref.isWhole_whole _) cc0_scoped1 rV (Memref.isWhole_whole _) cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task, from its part of the arrays, gives it back written. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (idx m d) (m (tLoc d)) (tsh (coordsV ⟨_, hci.1⟩ ⟨_, hci.2⟩)) (m (oLoc d)) hF (idx_lt m hpre d) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is given is what its tasks take. -/
theorem vecSplit : (K (F := F)).VecSplit' (P m) 0 := by
  intro d c
  show (bigSep Finset.univ fun i : Fin 16 => TakeAt m d (Fin.cast nCore_zero c) i) ⊢ |={Set.univ}=> iprop(
      (bigSep Finset.univ fun i : Fin ((K (F := F)).nSub 0) => TakeAt m d (Fin.cast nCore_zero c) (Fin.cast nSub_zero i))
      ∗ ((bigSep Finset.univ fun i : Fin ((K (F := F)).nSub 0) => GiveAt m d (Fin.cast nCore_zero c) (Fin.cast nSub_zero i))
          -∗ bigSep Finset.univ fun i : Fin 16 => GiveAt m d (Fin.cast nCore_zero c) i))
  rw [bigSep_tasks (F := F) (TakeAt m d (Fin.cast nCore_zero c)), bigSep_tasks (F := F) (GiveAt m d (Fin.cast nCore_zero c))]
  iintro H; imodintro
  isplitl [H]; · iexact H
  iintro H; iexact H

theorem st0_eq (d : Dev nD) : (bigSep Finset.univ fun c : Fin ((K (F := F)).nCore 0) => (P m).st 0 d c)
    = iprop((iLoc d ↦{fullShare} idx m d) ∗ (tLoc d ↦{fullShare} m (tLoc d)) ∗ oLoc d ↦{fullShare} m (oLoc d)) :=
  all_takes d (idx m d) (m (tLoc d)) (m (oLoc d))
theorem dn0_eq (d : Dev nD) : (bigSep Finset.univ fun c : Fin ((K (F := F)).nCore 0) => (P m).dn 0 d c)
    = iprop((iLoc d ↦{fullShare} idx m d) ∗ (tLoc d ↦{fullShare} m (tLoc d)) ∗ oLoc d ↦{fullShare} rows m d) :=
  all_gives d (idx m d) (m (tLoc d))

/-! ## The launch element -/

def u₀ : UU := (initOf (K (F := F)).hsCells (K (F := F)).hsToks, 1)

theorem emp_all {α : Type} (s : Finset α) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## @main on the TensorCore -/

abbrev xR : DevRef τ sig := Proc.devRef .tc (main_arg0 : Ref sig .tc)
abbrev tR : DevRef τ sig := Proc.devRef .tc (main_arg1 : Ref sig .tc)
abbrev wR : DevRef τ sig := Proc.devRef .tc (main_v0 : Ref sig .tc)
abbrev iR : DevRef τ sig := Proc.devRef .tc (main_v1 : Ref sig .tc)
abbrev oR : DevRef τ sig := Proc.devRef .tc (main_v2 : Ref sig .tc)
abbrev yR : DevRef τ sig := Proc.devRef .tc (main_v3 : Ref sig .tc)
abbrev zR : DevRef τ sig := Proc.devRef .tc (main_v4 : Ref sig .tc)

/-- The four host operations. -/
abbrev op1 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev op2 : HloOp τ sig (Elt F) := StableHlo.reshape main_v0 main_v1 (rfl : (.i32 : EltTy) = .i32) shapeCasts_S50x4096_S3200x64
abbrev op3 : HloOp τ sig (Elt F) := StableHlo.reshape main_v2 main_v3 (rfl : (.f32 : EltTy) = .f32) shapeCasts_S204800x128_S50x4096x128
abbrev op4 : HloOp τ sig (Elt F) := StableHlo.unary main_v3 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The TensorCore's arrays. -/
abbrev S7 : Finset (DevRef τ sig) := {xR, tR, wR, iR, oR, yR, zR}

theorem held_S7 (d : Dev nD) (W : Valuation τ sig (Elt F)) :
    (held (T d) S7 W : sProp 𝕄) = iprop((xLoc d ↦{fullShare} W xR) ∗ (tLoc d ↦{fullShare} W tR) ∗ (wLoc d ↦{fullShare} W wR) ∗ (iLoc d ↦{fullShare} W iR)
      ∗ (oLoc d ↦{fullShare} W oR) ∗ (yLoc d ↦{fullShare} W yR) ∗ zLoc d ↦{fullShare} W zR) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch's contents, the contents at the call, after it, and at the end. -/
def V0 (d : Dev nD) : Valuation τ sig (Elt F) := fun b => m (d, b)
def V2 (d : Dev nD) : Valuation τ sig (Elt F) := (op2 (F := F)).result ((op1 (F := F)).result (V0 m d))
def V3 (d : Dev nD) : Valuation τ sig (Elt F) := Function.update (V2 m d) oR (rows m d)
def V5 (d : Dev nD) : Valuation τ sig (Elt F) := (op4 (F := F)).result ((op3 (F := F)).result (V3 m d))

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The first two operations write only their own results. -/
theorem V2_of (d : Dev nD) {b : DevRef τ sig} (h0 : b ∉ ({wR} : Finset (DevRef τ sig))) (h1 : b ∉ ({iR} : Finset (DevRef τ sig))) : V2 m d b = m (d, b) :=
  ((op2 (F := F)).result_of_not_mem _ h1).trans ((op1 (F := F)).result_of_not_mem _ h0)
theorem V2_i (d : Dev nD) : V2 m d iR = idx m d := by
  unfold V2
  refine (StableHlo.reshape_result ..).trans ?_
  rw [StableHlo.unary_result]
  rfl
/-- So do the last two. -/
theorem V5_of (d : Dev nD) {b : DevRef τ sig} (h0 : b ∉ ({yR} : Finset (DevRef τ sig))) (h1 : b ∉ ({zR} : Finset (DevRef τ sig))) : V5 m d b = V3 m d b :=
  ((op4 (F := F)).result_of_not_mem _ h1).trans ((op3 (F := F)).result_of_not_mem _ h0)
theorem V3_of (d : Dev nD) {b : DevRef τ sig} (h : b ≠ oR) : V3 m d b = V2 m d b := Function.update_of_ne h _ _
theorem V3_o (d : Dev nD) : V3 m d oR = rows m d := Function.update_self _ _ _
theorem V5_z (d : Dev nD) : V5 m d zR = result m d := by
  unfold V5
  refine (StableHlo.unary_result ..).trans ?_
  rw [StableHlo.reshape_result, V3_o]
  rfl

theorem V2_x (d : Dev nD) : V2 m d xR = m (xLoc d) := V2_of m d (by decide) (by decide)
theorem V2_t (d : Dev nD) : V2 m d tR = m (tLoc d) := V2_of m d (by decide) (by decide)
theorem V2_o (d : Dev nD) : V2 m d oR = m (oLoc d) := V2_of m d (by decide) (by decide)
theorem V5_x (d : Dev nD) : V5 m d xR = m (xLoc d) := (V5_of m d (by decide) (by decide)).trans ((V3_of m d (by decide)).trans (V2_x m d))
theorem V5_t (d : Dev nD) : V5 m d tR = m (tLoc d) := (V5_of m d (by decide) (by decide)).trans ((V3_of m d (by decide)).trans (V2_t m d))

theorem h1 : (op1 (F := F)).bufs ⊆ S7 := show ({xR, wR} : Finset (DevRef τ sig)) ⊆ S7 by decide
theorem h2 : (op2 (F := F)).bufs ⊆ S7 := show ({wR, iR} : Finset (DevRef τ sig)) ⊆ S7 by decide
theorem h3 : (op3 (F := F)).bufs ⊆ S7 := show ({oR, yR} : Finset (DevRef τ sig)) ⊆ S7 by decide
theorem h4 : (op4 (F := F)).bufs ⊆ S7 := show ({yR, zR} : Finset (DevRef τ sig)) ⊆ S7 by decide

/-- What @main leaves the claim: its arguments at their launch contents, and its result. -/
abbrev FIN (d : Dev nD) : sProp 𝕄 := iprop((xLoc d ↦{fullShare} m (xLoc d)) ∗ (tLoc d ↦{fullShare} m (tLoc d)) ∗ zLoc d ↦{fullShare} result m d)

/-- The arrays at the call: what the tasks take, and the rest. -/
theorem held_call (d : Dev nD) : (held (T d) S7 (V2 m d) : sProp 𝕄)
    = iprop((xLoc d ↦{fullShare} m (xLoc d)) ∗ (tLoc d ↦{fullShare} m (tLoc d)) ∗ (wLoc d ↦{fullShare} V2 m d wR) ∗ (iLoc d ↦{fullShare} idx m d)
      ∗ (oLoc d ↦{fullShare} m (oLoc d)) ∗ (yLoc d ↦{fullShare} V2 m d yR) ∗ zLoc d ↦{fullShare} V2 m d zR) := by
  rw [held_S7, V2_x, V2_t, V2_i, V2_o]

/-- The arrays after the call: the output written, the rest as at it. -/
theorem held_called (d : Dev nD) : (held (T d) S7 (V3 m d) : sProp 𝕄)
    = iprop((xLoc d ↦{fullShare} m (xLoc d)) ∗ (tLoc d ↦{fullShare} m (tLoc d)) ∗ (wLoc d ↦{fullShare} V2 m d wR) ∗ (iLoc d ↦{fullShare} idx m d)
      ∗ (oLoc d ↦{fullShare} rows m d) ∗ (yLoc d ↦{fullShare} V2 m d yR) ∗ zLoc d ↦{fullShare} V2 m d zR) := by
  rw [held_S7, V3_o, V3_of m d (by decide), V3_of m d (by decide), V3_of m d (by decide), V3_of m d (by decide), V3_of m d (by decide), V3_of m d (by decide),
    V2_x, V2_t, V2_i]

/-- The arrays at the end. -/
theorem held_end (d : Dev nD) : (held (T d) S7 (V5 m d) : sProp 𝕄)
    = iprop((xLoc d ↦{fullShare} m (xLoc d)) ∗ (tLoc d ↦{fullShare} m (tLoc d)) ∗ (wLoc d ↦{fullShare} V5 m d wR) ∗ (iLoc d ↦{fullShare} V5 m d iR)
      ∗ (oLoc d ↦{fullShare} V5 m d oR) ∗ (yLoc d ↦{fullShare} V5 m d yR) ∗ zLoc d ↦{fullShare} result m d) := by
  rw [held_S7, V5_x, V5_t, V5_z]

/-- @main on device `d`'s TensorCore: two operations, the call, two operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S7) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) h2 (V := (op1 (F := F)).result (V0 m d))) $$ [Hb Hheld]
  · isplitl [Hb]; · iexact Hb
    iexact Hheld
  iintro ⟨Hb, Hheld⟩
  rw [wp_ret]; imodintro
  ihave Hheld := (Entails.of_eq (show (held (T d) S7 ((op2 (F := F)).result ((op1 (F := F)).result (V0 m d))) : sProp 𝕄) = _ from held_call m d)) $$ Hheld
  icases Hheld with ⟨Hx, Ht, Hw, Hi, Ho, Hy, Hz⟩
  iapply ((K (F := F)).wp_run (D (F := F)) 𝒱 (EH := EH) (P := P m) κ d 0) $$ [Hst Hx Ht Hw Hi Ho Hy Hz Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn := (Entails.of_eq (dn0_eq m d)) $$ Hdn
  icases Hdn with ⟨Hi, Ht, Ho⟩
  iapply (wp_hlo_within 𝒱 (SparseCore.T d) none Set.univ (op := op3) (S := S7) h3 (V := V3 m d)) $$ [Hb Hx Ht Hw Hi Ho Hy Hz]
  · isplitl [Hb]; · iexact Hb
    rw [held_called]
    isplitl [Hx]; · iexact Hx
    isplitl [Ht]; · iexact Ht
    isplitl [Hw]; · iexact Hw
    isplitl [Hi]; · iexact Hi
    isplitl [Ho]; · iexact Ho
    isplitl [Hy]; · iexact Hy
    iexact Hz
  iintro ⟨Hb, Hheld⟩
  rw [wp_ret]; imodintro
  iapply (wp_hlo_within 𝒱 (SparseCore.T d) none Set.univ (op := op4) (S := S7) h4 (V := (op3 (F := F)).result (V3 m d))) $$ [Hb Hheld]
  · isplitl [Hb]; · iexact Hb
    iexact Hheld
  iintro ⟨Hb, Hheld⟩
  rw [wp_ret]; imodintro; imodintro
  ihave Hheld := (Entails.of_eq (show (held (T d) S7 ((op4 (F := F)).result ((op3 (F := F)).result (V3 m d))) : sProp 𝕄) = _ from held_end m d)) $$ Hheld
  icases Hheld with ⟨Hx, Ht, -, -, -, -, Hz⟩
  isplitl [Hst]; · iexact Hst
  isplitr [Hb Hts]
  · isplitl [Hx]; · iexact Hx
    isplitl [Ht]; · iexact Ht
    iexact Hz
  isplitl [Hb] <;> iassumption

def fq (d : Dev nD) (s' : Phys nD τ sig (Elt F)) : Prop :=
  s'.mem.mem (xLoc d) = m (xLoc d) ∧ s'.mem.mem (tLoc d) = m (tLoc d) ∧ s'.mem.mem (zLoc d) = result m d

set_option maxRecDepth 16384 in
theorem hfin (d : Dev nD) (s' : Phys nD τ sig (Elt F)) : iprop(FIN m d ∗ SI s') ⊢ (⌜fq m d s'⌝ : sProp 𝕄) := by
  iintro ⟨⟨Hx, Ht, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := zLoc d) (I := Finset.univ) (q := fullShare) (f := result m d)) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (xLoc c) = m (xLoc c) ∧ r.2.mem (tLoc c) = m (tLoc c) ∧ r.2.mem (zLoc c) = result m c) ∧ r.2.sem = fun _ => 0

/-- The program, from any memory whose indices are below 100000: its arguments unchanged, its result `result`, every
    semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m launch_facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  THE VALUE. The program leaves `lookup x T`: at batch `b` and position `s`, the row of the table `T` that the word `x[b, s]`
  names (`result_eq` follows its transposes and reshapes). `ok_of_pre` reads the precondition as the bound on the words that
  the run asks for. What the reference leaves is in Taken.lean.
-/
module

public import proofs.«01_k».proof.Proof.Launch
public import proofs.«01_k».proof.Proof.Gen.Pre_in_range
public import Idealize.ShloMosaic.Lib.ReduceAll

@[expose] public section

noncomputable section

namespace Cert.Proof.Lookup

open Cert.KernelIdeal Cert.KernelIdeal.Gen
open Idealize.ShloMosaic Idealize.ShloMosaic.ValueIdx

variable {F : FTy → Type}

/-- The embedding lookup: at batch `b`, position `s` and lane `h`, entry `h` of the table's row `x[b, s]`. -/
def lookup (x : S4096x50.Idx → BitVec 32) (T : S100000x128.Idx → F .f32) : S4096x50x128.Idx → F .f32 := fun y =>
  T (ix2 ⟨(x (ix2 (y 0) (y 1))).toNat % 100000, Nat.mod_lt _ (by decide)⟩ (y 2))

/-! ## The kernel -/

section Kernel

variable (m : (ℓ : Loc nD τ sig) → Buf (Elt F) ℓ)

/-- Word `n = 4096 s + b` of the kernel's index array, the array read in row-major order, is `x[b, s]`. -/
theorem idx_at (d : Dev nD) (i : S3200x64.Idx) (b : Fin 4096) (s : Fin 50) (e : (i 0).val * 64 + (i 1).val = s.val * 4096 + b.val) :
    idx m d i = (m (xLoc d) : S4096x50.Idx → BitVec 32) (ix2 b s) := by
  unfold idx
  rw [shapeCast_apply (k := (ix2 s b : S50x4096.Idx)) (hk := ?_), transpose_apply (k := (ix2 b s : S4096x50.Idx)) (hk := ?_)]
  · intro a
    match a with
    | ⟨0, _⟩ => rfl
    | ⟨1, _⟩ => rfl
  · rw [Shape.rowMajor_val_two, Shape.rowMajor_val_two]
    exact e.symm

/-- The program's result is the lookup of its arguments. -/
theorem result_eq (d : Dev nD) : result m d = lookup (m (xLoc d)) (m (tLoc d)) := by
  funext y
  obtain ⟨b, s, h, rfl⟩ : ∃ (b : Fin 4096) (s : Fin 50) (h : Fin 128), y = ix3 b s h := ⟨y 0, y 1, y 2, eq_ix3 y⟩
  have hb := b.isLt
  have hs := s.isLt
  unfold result
  rw [transpose_apply (k := (ix3 s b h : S50x4096x128.Idx)) (hk := ?_),
    shapeCast_apply (k := (ix2 ⟨s.val * 4096 + b.val, by omega⟩ h : S204800x128.Idx)) (hk := ?_)]
  · have e := idx_at m d (ix2 ⟨(s.val * 4096 + b.val) / 64 % 3200, Nat.mod_lt _ (by decide)⟩
      ⟨(s.val * 4096 + b.val) % 64, Nat.mod_lt _ (by decide)⟩) b s (by
        show (s.val * 4096 + b.val) / 64 % 3200 * 64 + (s.val * 4096 + b.val) % 64 = _
        omega)
    exact congrArg (fun q => (m (tLoc d) : S100000x128.Idx → F .f32) (ix2 q h)) (Fin.ext (congrArg (fun v => v.toNat % 100000) e))
  · rw [Shape.rowMajor_val_two, Shape.rowMajor_val_three]
    rfl
  · intro a
    match a with
    | ⟨0, _⟩ => rfl
    | ⟨1, _⟩ => rfl
    | ⟨2, _⟩ => rfl

end Kernel

/-! ## Words below 100000 -/

section Words

variable (w : BitVec 32)

/-- A word whose two signed comparisons, `0 ≤ w` and `w < 100000`, both hold is below 100000. -/
theorem lt_of_cmps (e : IntOp.andi (IntOp.cmpi .sge w 0#32) (IntOp.cmpi .slt w 100000#32) = 1#1) : w.toNat < 100000 := by
  obtain ⟨h0, h1⟩ := IntOp.andi_eq_one.1 e
  have h0 := IntOp.cmpi_sge.1 h0
  have h1 := IntOp.cmpi_slt.1 h1
  rw [BitVec.toInt_eq_toNat_cond, BitVec.toInt_eq_toNat_cond] at h0 h1
  simp only [BitVec.toNat_ofNat, Nat.reducePow, Nat.reduceMod] at h0 h1
  omega

variable {w} (h : w.toNat < 100000)
include h

/-- Read signed, it is its number. -/
theorem toInt_of_lt : w.toInt.toNat = w.toNat := by
  rw [BitVec.toInt_eq_toNat_cond]
  split <;> omega

/-- It is not negative. -/
theorem slt_zero_of_lt : IntOp.cmpi .slt w 0#32 = 0#1 := by
  refine eq_zero_of_ne_one fun e => ?_
  have h0 := IntOp.cmpi_slt.1 e
  rw [BitVec.toInt_eq_toNat_cond, BitVec.toInt_eq_toNat_cond] at h0
  simp only [BitVec.toNat_ofNat, Nat.reducePow, Nat.reduceMod] at h0
  omega

/-- It passes the reference's two comparisons, `0 ≤ w` and `w ≤ 99999`. -/
theorem cmps_of_lt : IntOp.andi (IntOp.cmpi .sge w 0#32) (IntOp.cmpi .sle w 99999#32) = 1#1 := by
  refine IntOp.andi_eq_one.2 ⟨IntOp.cmpi_sge.2 ?_, IntOp.cmpi_sle.2 ?_⟩ <;>
    rw [BitVec.toInt_eq_toNat_cond, BitVec.toInt_eq_toNat_cond] <;>
    simp only [BitVec.toNat_ofNat, Nat.reducePow, Nat.reduceMod] <;>
    omega

end Words

/-! ## The precondition -/

/-- The precondition says that every index is below 100000. -/
theorem ok_of_pre [FloatOps F] (x : S4096x50.Idx → BitVec 32) (T : S100000x128.Idx → F .f32)
    (e : Cert.Pre_in_range.fn (F := F) x T = fun _ => 1#1) (j : S4096x50.Idx) : (x j).toNat < 100000 := by
  haveI : Subsingleton Cert.Pre_in_range.S_.Idx := ⟨fun a b => funext fun k => k.elim0⟩
  refine lt_of_cmps _ ?_
  exact Host.reduce_andi_all _ _ _ _ (fun k => k.elim0) (congrFun e _) j

end Cert.Proof.Lookup

end
-- ==== Proof.Taken.lean ====
/-
  THE REFERENCE. With every index below 100000 it leaves the same lookup: neither its wrap of negative indices (`starts_eq`),
  nor its mask of rows out of range (`mask_eq`), nor the clamp of its gather (`gather_at`, `taken_eq`) does anything.
-/
module

public import proofs.«01_k».proof.Proof.Value
public import proofs.«01_k».proof.Proof.Gen.ReferenceIdeal.Run

@[expose] public section

noncomputable section

namespace Cert.Proof.Lookup

open Cert.ReferenceIdeal Cert.ReferenceIdeal.Gen
open Idealize.ShloMosaic Idealize.ShloMosaic.ValueIdx

variable {F : FTy → Type}

variable (x : S4096x50.Idx → BitVec 32)

/-- The reference's start indices: a negative word wrapped round once, with a trailing axis of size one. -/
abbrev starts : S4096x50x1.Idx → BitVec 32 :=
  broadcastInDim S4096x50x1 ![0, 1] bcast_S4096x50_S4096x50x1_0_1
    (select (cmpi .slt x (broadcastInDim S4096x50 ![] bcast_S_S4096x50 (constantI S_ 32 0#32)))
      (addi x (broadcastInDim S4096x50 ![] bcast_S_S4096x50 (constantI S_ 32 100000#32))) x)

/-- The reference's mask: which rows are in range. -/
abbrev mask : S4096x50.Idx → BitVec 1 :=
  Host.reduce IntOp.andi
    (andi (cmpi .sge (starts x) (broadcastInDim S4096x50x1 ![] bcast_S_S4096x50x1 (constantI S_ 32 0#32)))
      (cmpi .sle (starts x) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- What the reference returns: the gathered rows, and a NaN where the mask is off. -/
abbrev taken [FloatOps F] (T : S100000x128.Idx → F .f32) : S4096x50x128.Idx → F .f32 :=
  select (broadcastInDim S4096x50x128 ![0, 1] bcast_S4096x50_S4096x50x128_0_1 (mask x))
    (Host.gather gather_S100000x128_S4096x50x1_S4096x50x128_2_0_n_n_0_2_1128 T (starts x))
    (broadcastInDim S4096x50x128 ![] bcast_S_S4096x50x128 (constant S_ .f32 0x7FC00000#32))

variable {x} (h : ∀ j, (x j).toNat < 100000)
include h

/-- No word in range is wrapped. -/
theorem starts_eq (j : S4096x50x1.Idx) : starts x j = x (ix2 (j 0) (j 1)) := by
  unfold starts
  rw [broadcastInDim_apply (k := (ix2 (j 0) (j 1) : S4096x50.Idx)) (hk := ?_)]
  · show Scalar.select (IntOp.cmpi .slt (x (ix2 (j 0) (j 1))) 0#32) _ _ = _
    rw [slt_zero_of_lt (h _)]
    rfl
  · intro a
    match a with
    | ⟨0, _⟩ => exact (if_neg (show ¬(4096 = 1) by decide)).symm
    | ⟨1, _⟩ => exact (if_neg (show ¬(50 = 1) by decide)).symm

/-- The mask is on everywhere. -/
theorem mask_eq (j : S4096x50.Idx) : mask x j = 1#1 := by
  refine Host.reduce_andi_one _ _ _ _ j rfl fun i => ?_
  show IntOp.andi (IntOp.cmpi .sge (starts x i) 0#32) (IntOp.cmpi .sle (starts x i) 99999#32) = 1#1
  rw [starts_eq h]
  exact cmps_of_lt (h _)

omit h in
/-- The gather's row at `(b, s)`: the start index there, read signed and clamped into the table. -/
theorem gather_at {α : Type} (T : S100000x128.Idx → α) (v : S4096x50x1.Idx → BitVec 32) (b : Fin 4096) (s : Fin 50) (k : Fin 128) :
    Host.gather gather_S100000x128_S4096x50x1_S4096x50x128_2_0_n_n_0_2_1128 T v (ix3 b s k)
      = T (ix2 ⟨min (v (ix3 b s 0)).toInt.toNat 99999, by omega⟩ k) := by
  unfold Host.gather
  refine congrArg T (funext fun a => Fin.ext ?_)
  match a with
  | ⟨0, _⟩ =>
    show GatherDims.start _ _ v 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S100000x128_S4096x50x1_S4096x50x128_2_0_n_n_0_2_1128.startIndexMap from List.mem_singleton.mpr rfl), Nat.add_zero]
    refine congrArg (fun q => min (BitVec.toInt (v q)).toNat 99999) (funext fun c => Fin.ext ?_)
    match c with
    | ⟨0, _⟩ => rfl
    | ⟨1, _⟩ => rfl
    | ⟨2, _⟩ => rfl
  | ⟨1, _⟩ =>
    show GatherDims.start _ _ v 1 + GatherDims.batchCoord _ _ 1 + GatherDims.offCoord _ _ 1 = k.val
    rw [GatherDims.batchCoord_eq_zero _ _ _ List.not_mem_nil]
    unfold GatherDims.start GatherDims.offCoord
    rw [dif_neg (show ¬(1 : Fin 2) ∈ gather_S100000x128_S4096x50x1_S4096x50x128_2_0_n_n_0_2_1128.startIndexMap by decide),
      dif_pos (show (1 : Fin 2) ∈ gather_S100000x128_S4096x50x1_S4096x50x128_2_0_n_n_0_2_1128.sKept by decide), Nat.add_zero, Nat.zero_add]
    rfl

/-- With every index in range the reference returns the lookup. -/
theorem taken_eq [FloatOps F] (T : S100000x128.Idx → F .f32) : taken x T = lookup x T := by
  funext y
  obtain ⟨b, s, k, rfl⟩ : ∃ (b : Fin 4096) (s : Fin 50) (k : Fin 128), y = ix3 b s k := ⟨y 0, y 1, y 2, eq_ix3 y⟩
  have hlt := h (ix2 b s)
  have hw : min (starts x (ix3 b s 0)).toInt.toNat 99999 = (x (ix2 b s)).toNat % 100000 := by
    rw [starts_eq h]
    show min (x (ix2 b s)).toInt.toNat 99999 = _
    rw [toInt_of_lt hlt]
    omega
  have hm : broadcastInDim S4096x50x128 ![0, 1] bcast_S4096x50_S4096x50x128_0_1 (mask x) (ix3 b s k) = 1#1 := mask_eq h _
  unfold taken
  rw [select_apply, hm, select_one, gather_at]
  exact congrArg (fun q => T (ix2 q k)) (Fin.ext hw)

end Cert.Proof.Lookup

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import proofs.«01_k».proof.Proof.Taken

@[expose] public section

noncomputable section

namespace Cert.Proof

open Idealize.ShloMosaic Idealize.ShloMosaic.TcCoe Idealize.SL.Sem

/-! ## The reference's facts

The reference at words has the text of the reference over the extended reals, so its facts are the same ones. -/

section

open Cert.ReferenceIdeal.Gen

instance reference_facts₀ : Cert.Reference.Facts₀ where
  bcast_S_S4096x50 := bcast_S_S4096x50
  bcast_S4096x50_S4096x50x1_0_1 := bcast_S4096x50_S4096x50x1_0_1
  bcast_S_S4096x50x1 := bcast_S_S4096x50x1
  bcast_S1_S1x1x1_2 := bcast_S1_S1x1x1_2
  bcast_S1x1x1_S4096x50x1_0_1_2 := bcast_S1x1x1_S4096x50x1_0_1_2
  reducesTo_S4096x50x1_S4096x50_d2 := reducesTo_S4096x50x1_S4096x50_d2
  h_S_ := h_S_
  bcast_S4096x50_S4096x50x128_0_1 := bcast_S4096x50_S4096x50x128_0_1
  bcast_S_S4096x50x128 := bcast_S_S4096x50x128
  gather_S100000x128_S4096x50x1_S4096x50x128_2_0_n_n_0_2_1128_wf := gather_S100000x128_S4096x50x1_S4096x50x128_2_0_n_n_0_2_1128_wf

/-- Every side condition that the reference states. -/
instance reference_facts : Cert.Reference.Facts where

end

/-! ## The two runs, with the value they share -/

section

variable {F : FTy → Type} [FloatOps F] [∀ e, Nonempty (Elt F e)]

/-- The lookup of a memory's two arguments. -/
abbrev value (m : (ℓ : Loc Cert.KernelIdeal.nD Cert.KernelIdeal.τ Cert.KernelIdeal.sig) → Buf (Elt F) ℓ) (c : Dev Cert.KernelIdeal.nD) :
    Cert.KernelIdeal.S4096x50x128.Idx → F .f32 :=
  Lookup.lookup (m ((c.tc : Thread Cert.KernelIdeal.nD Cert.KernelIdeal.τ).loc Cert.KernelIdeal.main_arg0))
    (m ((c.tc : Thread Cert.KernelIdeal.nD Cert.KernelIdeal.τ).loc Cert.KernelIdeal.main_arg1))

/-- The kernel, from a memory whose indices are in range: the lookup in its result, its arguments kept, every semaphore at
    zero. -/
theorem run_kernel (m : (ℓ : Loc Cert.KernelIdeal.nD Cert.KernelIdeal.τ Cert.KernelIdeal.sig) → Buf (Elt F) ℓ)
    (ρ : Dev Cert.KernelIdeal.nD → PrngReg)
    (hpre : ∀ c : Dev Cert.KernelIdeal.nD, Cert.Pre_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_v4) = value m c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 :=
  (θ_run (Cert.KernelIdeal.defs (F := F)) _ _).mono
    (fun _ h => ⟨fun c => ⟨(h.1 c).2.2.trans (Lookup.result_eq m c), (h.1 c).1, (h.1 c).2.1⟩, h.2⟩)
    (Lookup.run_main m ρ fun d => Lookup.ok_of_pre _ _ (hpre d))

omit [∀ e, Nonempty (Elt F e)] in
/-- The reference, from a memory whose arguments are those of the kernel's memory `m`, in range: the lookup in its result,
    its arguments kept. -/
theorem run_reference (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (ρ' : Dev Cert.ReferenceIdeal.nD → PrngReg)
    (hpre : ∀ c : Dev Cert.KernelIdeal.nD, Cert.Pre_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (hagree : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    θ_run (Cert.ReferenceIdeal.defs (F := F)) (onTc (τ := Cert.ReferenceIdeal.τ) (Cert.ReferenceIdeal.main (F := F))) ⟨m', fun _ => 0, ρ'⟩ fun r =>
      ∀ c : Dev Cert.ReferenceIdeal.nD,
        r.2.mem ((c.tc : Thread Cert.ReferenceIdeal.nD Cert.ReferenceIdeal.τ).loc Cert.ReferenceIdeal.main_v0) = value m c
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1) :=
  (θ_run (Cert.ReferenceIdeal.defs (F := F)) _ _).mono
    (fun _ h c => ⟨(h c).1.trans ((congrArg₂ (fun x T => Lookup.taken (F := F) x T) (hagree c).1 (hagree c).2).trans
      (Lookup.taken_eq (Lookup.ok_of_pre _ _ (hpre c)) _)), (h c).2⟩)
    (Cert.ReferenceIdeal.Value.run m' ρ')

end

/-! ## The frames -/

/-- The kernel at words runs, keeps its arguments and leaves every semaphore at zero. -/
theorem frame_kernel : Cert.quiescent_Kernel := fun m ρ hpre =>
  (θ_run Cert.KernelIdeal.defs _ _).mono (fun _ h => ⟨fun c => (h.1 c).2, h.2⟩) (run_kernel (F := Bits) m ρ hpre)

/-- The kernel over the extended reals does. -/
theorem frame_kernelIdeal : Cert.quiescent_KernelIdeal := fun m ρ hpre =>
  (θ_run Cert.KernelIdeal.defs _ _).mono (fun _ h => ⟨fun c => (h.1 c).2, h.2⟩) (run_kernel (F := Ideal) m ρ hpre)

/-- So does the reference over the extended reals; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And the reference at words. -/
theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-! ## The values -/

/-- Over the extended reals kernel and reference compute the same function. -/
theorem algebraic : Cert.algebraic_KernelIdeal_ReferenceIdeal := fun m ρ m' ρ' hpre hagree =>
  ⟨value m, (θ_run Cert.KernelIdeal.defs _ _).mono (fun _ h => h.1) (run_kernel (F := Ideal) m ρ hpre),
    run_reference (F := Ideal) m m' ρ' hpre hagree⟩

/-- They compute the same words. -/
theorem bitexact : Cert.bitexact_Kernel_Reference := fun m ρ m' ρ' hpre hagree =>
  ⟨value (F := Bits) m, (θ_run Cert.KernelIdeal.defs _ _).mono (fun _ h => h.1) (run_kernel (F := Bits) m ρ hpre),
    run_reference (F := Bits) m m' ρ' hpre hagree⟩

/-- Everything that is claimed. -/
theorem claim : Cert.Claim :=
  ⟨Cert.Kernel.Gen.facts, Cert.KernelIdeal.Gen.facts, Cert.ReferenceIdeal.Gen.facts, reference_facts, Cert.Pre_in_range.Gen.facts,
    frame_kernel, frame_kernelIdeal, frame_referenceIdeal, fun m ρ _ => frame_referenceIdeal m ρ trivial, frame_reference, trivial,
    algebraic, bitexact⟩

end Cert.Proof

end
